-- ==== Defs.lean ====
def Pre_Kernel [hPre_sorted_batch : Cert.Pre_sorted_batch.Facts] (m : (ℓ : Loc Cert.Kernel.nD Cert.Kernel.τ Cert.Kernel.sig) → Buf (Elt Bits) ℓ) : Prop :=
  ∀ c : Dev Cert.Kernel.nD,
    (Cert.Pre_sorted_batch.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_sorted_batch : Cert.Pre_sorted_batch.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_batch.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_sorted_batch_finite_bias [hPre_sorted_batch_finite_bias : Cert.Pre_sorted_batch_finite_bias.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_batch_finite_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_batch [hPre_sorted_batch : Cert.Pre_sorted_batch.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_batch.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_ShiftedIdeal (m : (ℓ : Loc Cert.ShiftedIdeal.nD Cert.ShiftedIdeal.τ Cert.ShiftedIdeal.sig) → Buf (Elt Ideal) ℓ) : Prop :=
  True

def Pre_ShiftedIdeal_sorted_batch_finite_bias [hPre_sorted_batch_finite_bias : Cert.Pre_sorted_batch_finite_bias.Facts] (m : (ℓ : Loc Cert.ShiftedIdeal.nD Cert.ShiftedIdeal.τ Cert.ShiftedIdeal.sig) → Buf (Elt Ideal) ℓ) : Prop :=
  ∀ c : Dev Cert.ShiftedIdeal.nD,
    (Cert.Pre_sorted_batch_finite_bias.fn (F := Ideal) (m ((c.tc : Thread Cert.ShiftedIdeal.nD Cert.ShiftedIdeal.τ).loc Cert.ShiftedIdeal.main_arg0)) (m ((c.tc : Thread Cert.ShiftedIdeal.nD Cert.ShiftedIdeal.τ).loc Cert.ShiftedIdeal.main_arg1)) (m ((c.tc : Thread Cert.ShiftedIdeal.nD Cert.ShiftedIdeal.τ).loc Cert.ShiftedIdeal.main_arg2)) (m ((c.tc : Thread Cert.ShiftedIdeal.nD Cert.ShiftedIdeal.τ).loc Cert.ShiftedIdeal.main_arg3)) (m ((c.tc : Thread Cert.ShiftedIdeal.nD Cert.ShiftedIdeal.τ).loc Cert.ShiftedIdeal.main_arg4)) (m ((c.tc : Thread Cert.ShiftedIdeal.nD Cert.ShiftedIdeal.τ).loc Cert.ShiftedIdeal.main_arg5)) (m ((c.tc : Thread Cert.ShiftedIdeal.nD Cert.ShiftedIdeal.τ).loc Cert.ShiftedIdeal.main_arg6))) = (fun _ => 1#1)

def quiescent_Kernel [hKernel : Cert.Kernel.Facts] [hPre_sorted_batch : Cert.Pre_sorted_batch.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_sorted_batch : Cert.Pre_sorted_batch.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_sorted_batch_finite_bias [hKernelIdeal : Cert.KernelIdeal.Facts] [hPre_sorted_batch_finite_bias : Cert.Pre_sorted_batch_finite_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_batch_finite_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_sorted_batch [hReferenceIdeal : Cert.ReferenceIdeal.Facts] [hPre_sorted_batch : Cert.Pre_sorted_batch.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_batch m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ShiftedIdeal [hShiftedIdeal : Cert.ShiftedIdeal.Facts] : Prop :=
  ∀ (m : (ℓ : Loc Cert.ShiftedIdeal.nD Cert.ShiftedIdeal.τ Cert.ShiftedIdeal.sig) → Buf (Elt Ideal) ℓ) (g : Dev Cert.ShiftedIdeal.nD → PrngReg), Pre_ShiftedIdeal m →
    θ_run (Cert.ShiftedIdeal.defs (F := Ideal)) (onTc (τ := Cert.ShiftedIdeal.τ) (Cert.ShiftedIdeal.main (F := Ideal))) ⟨m, fun _ => 0, g⟩ (fun r => (∀ c : Dev Cert.ShiftedIdeal.nD,
      r.2.mem ((c.tc : Thread Cert.ShiftedIdeal.nD Cert.ShiftedIdeal.τ).loc Cert.ShiftedIdeal.main_arg0) = m ((c.tc : Thread Cert.ShiftedIdeal.nD Cert.ShiftedIdeal.τ).loc Cert.ShiftedIdeal.main_arg0)
      ∧ r.2.mem ((c.tc : Thread Cert.ShiftedIdeal.nD Cert.ShiftedIdeal.τ).loc Cert.ShiftedIdeal.main_arg1) = m ((c.tc : Thread Cert.ShiftedIdeal.nD Cert.ShiftedIdeal.τ).loc Cert.ShiftedIdeal.main_arg1)
      ∧ r.2.mem ((c.tc : Thread Cert.ShiftedIdeal.nD Cert.ShiftedIdeal.τ).loc Cert.ShiftedIdeal.main_arg2) = m ((c.tc : Thread Cert.ShiftedIdeal.nD Cert.ShiftedIdeal.τ).loc Cert.ShiftedIdeal.main_arg2)
      ∧ r.2.mem ((c.tc : Thread Cert.ShiftedIdeal.nD Cert.ShiftedIdeal.τ).loc Cert.ShiftedIdeal.main_arg3) = m ((c.tc : Thread Cert.ShiftedIdeal.nD Cert.ShiftedIdeal.τ).loc Cert.ShiftedIdeal.main_arg3)
      ∧ r.2.mem ((c.tc : Thread Cert.ShiftedIdeal.nD Cert.ShiftedIdeal.τ).loc Cert.ShiftedIdeal.main_arg4) = m ((c.tc : Thread Cert.ShiftedIdeal.nD Cert.ShiftedIdeal.τ).loc Cert.ShiftedIdeal.main_arg4)
      ∧ r.2.mem ((c.tc : Thread Cert.ShiftedIdeal.nD Cert.ShiftedIdeal.τ).loc Cert.ShiftedIdeal.main_arg5) = m ((c.tc : Thread Cert.ShiftedIdeal.nD Cert.ShiftedIdeal.τ).loc Cert.ShiftedIdeal.main_arg5)
      ∧ r.2.mem ((c.tc : Thread Cert.ShiftedIdeal.nD Cert.ShiftedIdeal.τ).loc Cert.ShiftedIdeal.main_arg6) = m ((c.tc : Thread Cert.ShiftedIdeal.nD Cert.ShiftedIdeal.τ).loc Cert.ShiftedIdeal.main_arg6))
      ∧ r.2.sem = fun _ => 0)

def quiescent_ShiftedIdeal_pre_sorted_batch_finite_bias [hShiftedIdeal : Cert.ShiftedIdeal.Facts] [hPre_sorted_batch_finite_bias : Cert.Pre_sorted_batch_finite_bias.Facts] : Prop :=
  ∀ (m : (ℓ : Loc Cert.ShiftedIdeal.nD Cert.ShiftedIdeal.τ Cert.ShiftedIdeal.sig) → Buf (Elt Ideal) ℓ) (g : Dev Cert.ShiftedIdeal.nD → PrngReg), Pre_ShiftedIdeal_sorted_batch_finite_bias m →
    θ_run (Cert.ShiftedIdeal.defs (F := Ideal)) (onTc (τ := Cert.ShiftedIdeal.τ) (Cert.ShiftedIdeal.main (F := Ideal))) ⟨m, fun _ => 0, g⟩ (fun r => (∀ c : Dev Cert.ShiftedIdeal.nD,
      r.2.mem ((c.tc : Thread Cert.ShiftedIdeal.nD Cert.ShiftedIdeal.τ).loc Cert.ShiftedIdeal.main_arg0) = m ((c.tc : Thread Cert.ShiftedIdeal.nD Cert.ShiftedIdeal.τ).loc Cert.ShiftedIdeal.main_arg0)
      ∧ r.2.mem ((c.tc : Thread Cert.ShiftedIdeal.nD Cert.ShiftedIdeal.τ).loc Cert.ShiftedIdeal.main_arg1) = m ((c.tc : Thread Cert.ShiftedIdeal.nD Cert.ShiftedIdeal.τ).loc Cert.ShiftedIdeal.main_arg1)
      ∧ r.2.mem ((c.tc : Thread Cert.ShiftedIdeal.nD Cert.ShiftedIdeal.τ).loc Cert.ShiftedIdeal.main_arg2) = m ((c.tc : Thread Cert.ShiftedIdeal.nD Cert.ShiftedIdeal.τ).loc Cert.ShiftedIdeal.main_arg2)
      ∧ r.2.mem ((c.tc : Thread Cert.ShiftedIdeal.nD Cert.ShiftedIdeal.τ).loc Cert.ShiftedIdeal.main_arg3) = m ((c.tc : Thread Cert.ShiftedIdeal.nD Cert.ShiftedIdeal.τ).loc Cert.ShiftedIdeal.main_arg3)
      ∧ r.2.mem ((c.tc : Thread Cert.ShiftedIdeal.nD Cert.ShiftedIdeal.τ).loc Cert.ShiftedIdeal.main_arg4) = m ((c.tc : Thread Cert.ShiftedIdeal.nD Cert.ShiftedIdeal.τ).loc Cert.ShiftedIdeal.main_arg4)
      ∧ r.2.mem ((c.tc : Thread Cert.ShiftedIdeal.nD Cert.ShiftedIdeal.τ).loc Cert.ShiftedIdeal.main_arg5) = m ((c.tc : Thread Cert.ShiftedIdeal.nD Cert.ShiftedIdeal.τ).loc Cert.ShiftedIdeal.main_arg5)
      ∧ r.2.mem ((c.tc : Thread Cert.ShiftedIdeal.nD Cert.ShiftedIdeal.τ).loc Cert.ShiftedIdeal.main_arg6) = m ((c.tc : Thread Cert.ShiftedIdeal.nD Cert.ShiftedIdeal.τ).loc Cert.ShiftedIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_batch : Cert.Pre_sorted_batch.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def algebraic_KernelIdeal_ShiftedIdeal_pre_sorted_batch_finite_bias [hKernelIdeal : Cert.KernelIdeal.Facts] [hShiftedIdeal : Cert.ShiftedIdeal.Facts] [hPre_sorted_batch_finite_bias : Cert.Pre_sorted_batch_finite_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ShiftedIdeal.nD Cert.ShiftedIdeal.τ Cert.ShiftedIdeal.sig) → Buf (Elt Ideal) ℓ) (g' : Dev Cert.ShiftedIdeal.nD → PrngReg), Pre_KernelIdeal_sorted_batch_finite_bias m →
    (∀ c : Dev Cert.KernelIdeal.nD,
      m' ((c.tc : Thread Cert.ShiftedIdeal.nD Cert.ShiftedIdeal.τ).loc Cert.ShiftedIdeal.main_arg0) = m ((c.tc : Thread Cert.KernelIdeal.nD Cert.KernelIdeal.τ).loc Cert.KernelIdeal.main_arg0)
      ∧ m' ((c.tc : Thread Cert.ShiftedIdeal.nD Cert.ShiftedIdeal.τ).loc Cert.ShiftedIdeal.main_arg1) = m ((c.tc : Thread Cert.KernelIdeal.nD Cert.KernelIdeal.τ).loc Cert.KernelIdeal.main_arg1)
      ∧ m' ((c.tc : Thread Cert.ShiftedIdeal.nD Cert.ShiftedIdeal.τ).loc Cert.ShiftedIdeal.main_arg2) = m ((c.tc : Thread Cert.KernelIdeal.nD Cert.KernelIdeal.τ).loc Cert.KernelIdeal.main_arg2)
      ∧ m' ((c.tc : Thread Cert.ShiftedIdeal.nD Cert.ShiftedIdeal.τ).loc Cert.ShiftedIdeal.main_arg3) = m ((c.tc : Thread Cert.KernelIdeal.nD Cert.KernelIdeal.τ).loc Cert.KernelIdeal.main_arg3)
      ∧ m' ((c.tc : Thread Cert.ShiftedIdeal.nD Cert.ShiftedIdeal.τ).loc Cert.ShiftedIdeal.main_arg4) = m ((c.tc : Thread Cert.KernelIdeal.nD Cert.KernelIdeal.τ).loc Cert.KernelIdeal.main_arg4)
      ∧ m' ((c.tc : Thread Cert.ShiftedIdeal.nD Cert.ShiftedIdeal.τ).loc Cert.ShiftedIdeal.main_arg5) = m ((c.tc : Thread Cert.KernelIdeal.nD Cert.KernelIdeal.τ).loc Cert.KernelIdeal.main_arg5)
      ∧ m' ((c.tc : Thread Cert.ShiftedIdeal.nD Cert.ShiftedIdeal.τ).loc Cert.ShiftedIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ShiftedIdeal.defs (F := Ideal)) (onTc (τ := Cert.ShiftedIdeal.τ) (Cert.ShiftedIdeal.main (F := Ideal))) ⟨m', fun _ => 0, g'⟩ (fun r => ∀ c : Dev Cert.ShiftedIdeal.nD,
          r.2.mem ((c.tc : Thread Cert.ShiftedIdeal.nD Cert.ShiftedIdeal.τ).loc Cert.ShiftedIdeal.main_v65) = v0 c
          ∧ r.2.mem ((c.tc : Thread Cert.ShiftedIdeal.nD Cert.ShiftedIdeal.τ).loc Cert.ShiftedIdeal.main_arg0) = m' ((c.tc : Thread Cert.ShiftedIdeal.nD Cert.ShiftedIdeal.τ).loc Cert.ShiftedIdeal.main_arg0)
          ∧ r.2.mem ((c.tc : Thread Cert.ShiftedIdeal.nD Cert.ShiftedIdeal.τ).loc Cert.ShiftedIdeal.main_arg1) = m' ((c.tc : Thread Cert.ShiftedIdeal.nD Cert.ShiftedIdeal.τ).loc Cert.ShiftedIdeal.main_arg1)
          ∧ r.2.mem ((c.tc : Thread Cert.ShiftedIdeal.nD Cert.ShiftedIdeal.τ).loc Cert.ShiftedIdeal.main_arg2) = m' ((c.tc : Thread Cert.ShiftedIdeal.nD Cert.ShiftedIdeal.τ).loc Cert.ShiftedIdeal.main_arg2)
          ∧ r.2.mem ((c.tc : Thread Cert.ShiftedIdeal.nD Cert.ShiftedIdeal.τ).loc Cert.ShiftedIdeal.main_arg3) = m' ((c.tc : Thread Cert.ShiftedIdeal.nD Cert.ShiftedIdeal.τ).loc Cert.ShiftedIdeal.main_arg3)
          ∧ r.2.mem ((c.tc : Thread Cert.ShiftedIdeal.nD Cert.ShiftedIdeal.τ).loc Cert.ShiftedIdeal.main_arg4) = m' ((c.tc : Thread Cert.ShiftedIdeal.nD Cert.ShiftedIdeal.τ).loc Cert.ShiftedIdeal.main_arg4)
          ∧ r.2.mem ((c.tc : Thread Cert.ShiftedIdeal.nD Cert.ShiftedIdeal.τ).loc Cert.ShiftedIdeal.main_arg5) = m' ((c.tc : Thread Cert.ShiftedIdeal.nD Cert.ShiftedIdeal.τ).loc Cert.ShiftedIdeal.main_arg5)
          ∧ r.2.mem ((c.tc : Thread Cert.ShiftedIdeal.nD Cert.ShiftedIdeal.τ).loc Cert.ShiftedIdeal.main_arg6) = m' ((c.tc : Thread Cert.ShiftedIdeal.nD Cert.ShiftedIdeal.τ).loc Cert.ShiftedIdeal.main_arg6))

def Claim : Prop :=
  ∃ (hKernel : Cert.Kernel.Facts) (hKernelIdeal : Cert.KernelIdeal.Facts) (hReferenceIdeal : Cert.ReferenceIdeal.Facts) (hShiftedIdeal : Cert.ShiftedIdeal.Facts) (hPre_sorted_batch : Cert.Pre_sorted_batch.Facts) (hPre_sorted_batch_finite_bias : Cert.Pre_sorted_batch_finite_bias.Facts),
    quiescent_Kernel (hKernel := hKernel) (hPre_sorted_batch := hPre_sorted_batch)
    ∧ quiescent_KernelIdeal (hKernelIdeal := hKernelIdeal) (hPre_sorted_batch := hPre_sorted_batch)
    ∧ quiescent_KernelIdeal_pre_sorted_batch_finite_bias (hKernelIdeal := hKernelIdeal) (hPre_sorted_batch_finite_bias := hPre_sorted_batch_finite_bias)
    ∧ quiescent_ReferenceIdeal (hReferenceIdeal := hReferenceIdeal)
    ∧ quiescent_ReferenceIdeal_pre_sorted_batch (hReferenceIdeal := hReferenceIdeal) (hPre_sorted_batch := hPre_sorted_batch)
    ∧ quiescent_ShiftedIdeal (hShiftedIdeal := hShiftedIdeal)
    ∧ quiescent_ShiftedIdeal_pre_sorted_batch_finite_bias (hShiftedIdeal := hShiftedIdeal) (hPre_sorted_batch_finite_bias := hPre_sorted_batch_finite_bias)
    ∧ preserves_Kernel_KernelIdeal
    ∧ algebraic_KernelIdeal_ReferenceIdeal (hKernelIdeal := hKernelIdeal) (hReferenceIdeal := hReferenceIdeal) (hPre_sorted_batch := hPre_sorted_batch)
    ∧ algebraic_KernelIdeal_ShiftedIdeal_pre_sorted_batch_finite_bias (hKernelIdeal := hKernelIdeal) (hShiftedIdeal := hShiftedIdeal) (hPre_sorted_batch_finite_bias := hPre_sorted_batch_finite_bias)
-- ==== Pre_sorted_batch.lean ====
abbrev S100000x512 : Shape := ⟨2, ![100000, 512]⟩
abbrev S100000x3 : Shape := ⟨2, ![100000, 3]⟩
abbrev S100000 : Shape := ⟨1, ![100000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_0 : S100000.Slices ![0] S99999
  slices_S100000_S99999_1 : S100000.Slices ![1] S99999
  reducesTo_S99999_S_d0 : S99999.ReducesTo [0] S_

variable [Facts]

def fn {F : FTy → Type} [FloatOps F] (main_arg0 : FVec F S100000x512 .f32) (main_arg1 : FVec F S100000x3 .f32) (main_arg2 : IVec S100000 32) (main_arg3 : FVec F S512x512 .f32) (main_arg4 : FVec F S512 .f32) (main_arg5 : FVec F S512x1 .f32) (main_arg6 : FVec F S1 .f32) : IVec S_ 1 :=
  let main_c : IVec S_ 32 := constantI S_ 32 0#32
  let main_v0 : IVec S100000 32 := broadcastInDim S100000 ![] bcast_S_S100000 main_c
  let main_v1 : IVec S100000 1 := cmpi .sge main_arg2 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 512#32
  let main_v3 : IVec S100000 32 := broadcastInDim S100000 ![] bcast_S_S100000 main_c_1
  let main_v4 : IVec S100000 1 := cmpi .slt main_arg2 main_v3
  let main_c_2 : IVec S_ 1 := constantI S_ 1 1#1
  let main_v5 : IVec S_ 1 := (fun x v => Host.reduce IntOp.andi x v reducesTo_S100000_S_d0 h_S_) main_v4 main_c_2
  let main_v6 : IVec S_ 1 := andi main_v2 main_v5
  let main_v7 : IVec S99999 32 := (extractStridedSlice S99999 ![0] · slices_S100000_S99999_0) main_arg2
  let main_v8 : IVec S99999 32 := (extractStridedSlice S99999 ![1] · slices_S100000_S99999_1) main_arg2
  let main_v9 : IVec S99999 1 := cmpi .sle main_v7 main_v8
  let main_c_3 : IVec S_ 1 := constantI S_ 1 1#1
  let main_v10 : IVec S_ 1 := (fun x v => Host.reduce IntOp.andi x v reducesTo_S99999_S_d0 h_S_) main_v9 main_c_3
  let main_v11 : IVec S_ 1 := andi main_v6 main_v10
  main_v11
-- ==== Pre_sorted_batch_finite_bias.lean ====
abbrev S100000x512 : Shape := ⟨2, ![100000, 512]⟩
abbrev S100000x3 : Shape := ⟨2, ![100000, 3]⟩
abbrev S100000 : Shape := ⟨1, ![100000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_0 : S100000.Slices ![0] S99999
  slices_S100000_S99999_1 : S100000.Slices ![1] S99999
  reducesTo_S99999_S_d0 : S99999.ReducesTo [0] S_
  bcast_S_S1 : S_.BroadcastsInDim S1 (![] : Fin 0 → Fin S1.rank)
  reducesTo_S1_S_d0 : S1.ReducesTo [0] S_

variable [Facts]

def fn {F : FTy → Type} [FloatOps F] (main_arg0 : FVec F S100000x512 .f32) (main_arg1 : FVec F S100000x3 .f32) (main_arg2 : IVec S100000 32) (main_arg3 : FVec F S512x512 .f32) (main_arg4 : FVec F S512 .f32) (main_arg5 : FVec F S512x1 .f32) (main_arg6 : FVec F S1 .f32) : IVec S_ 1 :=
  let main_c : IVec S_ 32 := constantI S_ 32 0#32
  let main_v0 : IVec S100000 32 := broadcastInDim S100000 ![] bcast_S_S100000 main_c
  let main_v1 : IVec S100000 1 := cmpi .sge main_arg2 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 512#32
  let main_v3 : IVec S100000 32 := broadcastInDim S100000 ![] bcast_S_S100000 main_c_1
  let main_v4 : IVec S100000 1 := cmpi .slt main_arg2 main_v3
  let main_c_2 : IVec S_ 1 := constantI S_ 1 1#1
  let main_v5 : IVec S_ 1 := (fun x v => Host.reduce IntOp.andi x v reducesTo_S100000_S_d0 h_S_) main_v4 main_c_2
  let main_v6 : IVec S_ 1 := andi main_v2 main_v5
  let main_v7 : IVec S99999 32 := (extractStridedSlice S99999 ![0] · slices_S100000_S99999_0) main_arg2
  let main_v8 : IVec S99999 32 := (extractStridedSlice S99999 ![1] · slices_S100000_S99999_1) main_arg2
  let main_v9 : IVec S99999 1 := cmpi .sle main_v7 main_v8
  let main_c_3 : IVec S_ 1 := constantI S_ 1 1#1
  let main_v10 : IVec S_ 1 := (fun x v => Host.reduce IntOp.andi x v reducesTo_S99999_S_d0 h_S_) main_v9 main_c_3
  let main_v11 : IVec S_ 1 := andi main_v6 main_v10
  let main_v12 : FVec F S1 .f32 := Host.absf main_arg6
  let main_cst : FVec F S_ .f32 := constant S_ .f32 0x7F800000#32
  let main_v13 : FVec F S1 .f32 := broadcastInDim S1 ![] bcast_S_S1 main_cst
  let main_v14 : IVec S1 1 := cmpf .olt main_v12 main_v13
  let main_c_4 : IVec S_ 1 := constantI S_ 1 1#1
  let main_v15 : IVec S_ 1 := (fun x v => Host.reduce IntOp.andi x v reducesTo_S1_S_d0 h_S_) main_v14 main_c_4
  let main_v16 : IVec S_ 1 := andi main_v11 main_v15
  main_v16
-- ==== Kernel.lean ====
abbrev S100000x512 : Shape := ⟨2, ![100000, 512]⟩
abbrev S100000x3 : Shape := ⟨2, ![100000, 3]⟩
abbrev S100000 : Shape := ⟨1, ![100000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S100000x1 : Shape := ⟨2, ![100000, 1]⟩
abbrev S1x512 : Shape := ⟨2, ![1, 512]⟩
abbrev S4000x1 : Shape := ⟨2, ![4000, 1]⟩
abbrev S4000x512 : Shape := ⟨2, ![4000, 512]⟩
abbrev S2000x512 : Shape := ⟨2, ![2000, 512]⟩
abbrev S2000x1 : Shape := ⟨2, ![2000, 1]⟩
abbrev S1x1 : Shape := ⟨2, ![1, 1]⟩
abbrev S1x128 : Shape := ⟨2, ![1, 128]⟩
abbrev S4000x128 : Shape := ⟨2, ![4000, 128]⟩
abbrev S2000x128 : Shape := ⟨2, ![2000, 128]⟩
abbrev S128x512 : Shape := ⟨2, ![128, 512]⟩
abbrev S128x1 : Shape := ⟨2, ![128, 1]⟩

abbrev nBuf : Space → Nat
  | .hbm => 12
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S100000x3, .f32⟩
  | .hbm, ⟨2, _⟩ => ⟨S100000, .i32⟩
  | .hbm, ⟨3, _⟩ => ⟨S512x512, .f32⟩
  | .hbm, ⟨4, _⟩ => ⟨S512, .f32⟩
  | .hbm, ⟨5, _⟩ => ⟨S512x1, .f32⟩
  | .hbm, ⟨6, _⟩ => ⟨S1, .f32⟩
  | .hbm, ⟨7, _⟩ => ⟨S100000x1, .i32⟩
  | .hbm, ⟨8, _⟩ => ⟨S512x512, .bf16⟩
  | .hbm, ⟨9, _⟩ => ⟨S1x512, .f32⟩
  | .hbm, ⟨10, _⟩ => ⟨S1x512, .f32⟩
  | .hbm, ⟨11, _⟩ => ⟨S512x512, .f32⟩
  | .local _ .vmem, ⟨0, _⟩ => ⟨S4000x1, .i32⟩
  | .local _ .vmem, ⟨1, _⟩ => ⟨S4000x1, .i32⟩
  | .local _ .vmem, ⟨2, _⟩ => ⟨S4000x512, .f32⟩
  | .local _ .vmem, ⟨3, _⟩ => ⟨S4000x512, .f32⟩
  | .local _ .vmem, ⟨4, _⟩ => ⟨S512x512, .bf16⟩
  | .local _ .vmem, ⟨5, _⟩ => ⟨S1x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S512x1, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![25], ![false]⟩

def k0_off1 (v38 : BitVec 32) : Fin 2 → Nat :=
  let c0_i32_19 : BitVec 32 := 0#32
  let v42 : BitVec 1 := Scalar.cmpi .sgt v38 c0_i32_19
  let v43 : BitVec 32 := Scalar.extui v42
  let c0_i32_20 : BitVec 32 := 0#32
  let v44 : BitVec 1 := Scalar.cmpi .slt v38 c0_i32_20
  let v45 : BitVec 32 := Scalar.extui v44
  let v46 : BitVec 32 := Scalar.subi v43 v45
  let c8_i32 : BitVec 32 := 8#32
  let c0_i32_21 : BitVec 32 := 0#32
  let v47 : BitVec 1 := Scalar.cmpi .sgt c8_i32 c0_i32_21
  let v48 : BitVec 32 := Scalar.extui v47
  let c0_i32_22 : BitVec 32 := 0#32
  let v49 : BitVec 1 := Scalar.cmpi .slt c8_i32 c0_i32_22
  let v50 : BitVec 32 := Scalar.extui v49
  let v51 : BitVec 32 := Scalar.subi v48 v50
  let v52 : BitVec 1 := Scalar.cmpi .ne v46 v51
  let v53 : BitVec 32 := Scalar.remsi v38 c8_i32
  let c0_i32_23 : BitVec 32 := 0#32
  let v54 : BitVec 1 := Scalar.cmpi .ne v53 c0_i32_23
  let v55 : BitVec 1 := Scalar.andi v52 v54
  let v41 : BitVec 32 := Scalar.divsi v38 c8_i32
  let c1_i32 : BitVec 32 := 1#32
  let v56 : BitVec 32 := Scalar.subi v41 c1_i32
  let v57 : BitVec 32 := Scalar.select v55 v56 v41
  let c8_i32_24 : BitVec 32 := 8#32
  let v58 : BitVec 32 := Scalar.muli v57 c8_i32_24
  let c384_i32 : BitVec 32 := 384#32
  let v59 : BitVec 32 := Scalar.minsi v58 c384_i32
  let v87 : Index := Scalar.indexCast v59
  let c0_32 : Index := 0#32
  ![v87.toNat, 0]
def k0_cond2 (v38 : BitVec 32) (v40 : BitVec 32) : BitVec 1 :=
  let c0_i32_19 : BitVec 32 := 0#32
  let v42 : BitVec 1 := Scalar.cmpi .sgt v38 c0_i32_19
  let v43 : BitVec 32 := Scalar.extui v42
  let c0_i32_20 : BitVec 32 := 0#32
  let v44 : BitVec 1 := Scalar.cmpi .slt v38 c0_i32_20
  let v45 : BitVec 32 := Scalar.extui v44
  let v46 : BitVec 32 := Scalar.subi v43 v45
  let c8_i32 : BitVec 32 := 8#32
  let c0_i32_21 : BitVec 32 := 0#32
  let v47 : BitVec 1 := Scalar.cmpi .sgt c8_i32 c0_i32_21
  let v48 : BitVec 32 := Scalar.extui v47
  let c0_i32_22 : BitVec 32 := 0#32
  let v49 : BitVec 1 := Scalar.cmpi .slt c8_i32 c0_i32_22
  let v50 : BitVec 32 := Scalar.extui v49
  let v51 : BitVec 32 := Scalar.subi v48 v50
  let v52 : BitVec 1 := Scalar.cmpi .ne v46 v51
  let v53 : BitVec 32 := Scalar.remsi v38 c8_i32
  let c0_i32_23 : BitVec 32 := 0#32
  let v54 : BitVec 1 := Scalar.cmpi .ne v53 c0_i32_23
  let v55 : BitVec 1 := Scalar.andi v52 v54
  let v41 : BitVec 32 := Scalar.divsi v38 c8_i32
  let c1_i32 : BitVec 32 := 1#32
  let v56 : BitVec 32 := Scalar.subi v41 c1_i32
  let v57 : BitVec 32 := Scalar.select v55 v56 v41
  let c8_i32_24 : BitVec 32 := 8#32
  let v58 : BitVec 32 := Scalar.muli v57 c8_i32_24
  let c384_i32 : BitVec 32 := 384#32
  let v59 : BitVec 32 := Scalar.minsi v58 c384_i32
  let c128_i32 : BitVec 32 := 128#32
  let v60 : BitVec 32 := Scalar.addi v59 c128_i32
  let v61 : BitVec 1 := Scalar.cmpi .slt v40 v60
  let v62 : BitVec 32 := Scalar.extui v61
  let c0_i32_25 : BitVec 32 := 0#32
  let v63 : BitVec 1 := Scalar.cmpi .ne v62 c0_i32_25
  v63

def k0_off2 (v38 : BitVec 32) : Fin 2 → Nat :=
  let c0_i32_19 : BitVec 32 := 0#32
  let v42 : BitVec 1 := Scalar.cmpi .sgt v38 c0_i32_19
  let v43 : BitVec 32 := Scalar.extui v42
  let c0_i32_20 : BitVec 32 := 0#32
  let v44 : BitVec 1 := Scalar.cmpi .slt v38 c0_i32_20
  let v45 : BitVec 32 := Scalar.extui v44
  let v46 : BitVec 32 := Scalar.subi v43 v45
  let c8_i32 : BitVec 32 := 8#32
  let c0_i32_21 : BitVec 32 := 0#32
  let v47 : BitVec 1 := Scalar.cmpi .sgt c8_i32 c0_i32_21
  let v48 : BitVec 32 := Scalar.extui v47
  let c0_i32_22 : BitVec 32 := 0#32
  let v49 : BitVec 1 := Scalar.cmpi .slt c8_i32 c0_i32_22
  let v50 : BitVec 32 := Scalar.extui v49
  let v51 : BitVec 32 := Scalar.subi v48 v50
  let v52 : BitVec 1 := Scalar.cmpi .ne v46 v51
  let v53 : BitVec 32 := Scalar.remsi v38 c8_i32
  let c0_i32_23 : BitVec 32 := 0#32
  let v54 : BitVec 1 := Scalar.cmpi .ne v53 c0_i32_23
  let v55 : BitVec 1 := Scalar.andi v52 v54
  let v41 : BitVec 32 := Scalar.divsi v38 c8_i32
  let c1_i32 : BitVec 32 := 1#32
  let v56 : BitVec 32 := Scalar.subi v41 c1_i32
  let v57 : BitVec 32 := Scalar.select v55 v56 v41
  let c8_i32_24 : BitVec 32 := 8#32
  let v58 : BitVec 32 := Scalar.muli v57 c8_i32_24
  let c384_i32 : BitVec 32 := 384#32
  let v59 : BitVec 32 := Scalar.minsi v58 c384_i32
  let v94 : Index := Scalar.indexCast v59
  let c0_34 : Index := 0#32
  ![v94.toNat, 0]

def k0_chk1 (v38 : BitVec 32) (v40 : BitVec 32) : Prop :=
  (∀ (k0_h2 : k0_cond2 v38 v40 = 1#1), ∀ a, (k0_off1 v38) a + S128x512.size a ≤ S512x512.size a) ∧
  (∀ (k0_h2 : k0_cond2 v38 v40 = 1#1), ∀ a, (k0_off2 v38) a + S128x1.size a ≤ S512x1.size a)
theorem k0_off1_inb : ∀ (v38 : BitVec 32) (v40 : BitVec 32) (k0_hw1 : k0_chk1 v38 v40), ∀ (k0_h2 : k0_cond2 v38 v40 = 1#1), ∀ a, (k0_off1 v38) a + S128x512.size a ≤ S512x512.size a := fun v38 v40 k0_hw1 k0_h2 => k0_hw1.1 k0_h2
theorem k0_off2_inb : ∀ (v38 : BitVec 32) (v40 : BitVec 32) (k0_hw1 : k0_chk1 v38 v40), ∀ (k0_h2 : k0_cond2 v38 v40 = 1#1), ∀ a, (k0_off2 v38) a + S128x1.size a ≤ S512x1.size a := fun v38 v40 k0_hw1 k0_h2 => k0_hw1.2 k0_h2

def k0_cond4 (i : grid0.Coords) : BitVec 1 :=
  let arg0 : BitVec 32 := BitVec.ofNat 32 (i 0).val
  let c24_i32 : BitVec 32 := 24#32
  let v67 : BitVec 1 := Scalar.cmpi .eq arg0 c24_i32
  let v68 : BitVec 32 := Scalar.extui v67
  let c0_i32_27 : BitVec 32 := 0#32
  let v69 : BitVec 1 := Scalar.cmpi .ne v68 c0_i32_27
  v69

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S100000x512 : Shape := ⟨2, ![100000, 512]⟩
abbrev S100000x3 : Shape := ⟨2, ![100000, 3]⟩
abbrev S100000 : Shape := ⟨1, ![100000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x512 : Shape := ⟨2, ![1, 512]⟩
abbrev S_ : Shape := ⟨0, ![]⟩
abbrev S100000x1 : Shape := ⟨2, ![100000, 1]⟩

abbrev nBuf : Space → Nat
  | .hbm => 45
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000x3, .f32⟩
  | .hbm, ⟨2, _⟩ => ⟨S100000, .i32⟩
  | .hbm, ⟨3, _⟩ => ⟨S512x512, .f32⟩
  | .hbm, ⟨4, _⟩ => ⟨S512, .f32⟩
  | .hbm, ⟨5, _⟩ => ⟨S512x1, .f32⟩
  | .hbm, ⟨6, _⟩ => ⟨S1, .f32⟩
  | .hbm, ⟨7, _⟩ => ⟨S100000x512, .f32⟩
  | .hbm, ⟨8, _⟩ => ⟨S1x512, .f32⟩
  | .hbm, ⟨9, _⟩ => ⟨S100000x512, .f32⟩
  | .hbm, ⟨10, _⟩ => ⟨S100000x512, .f32⟩
  | .hbm, ⟨11, _⟩ => ⟨S_, .f32⟩
  | .hbm, ⟨12, _⟩ => ⟨S100000x512, .f32⟩
  | .hbm, ⟨13, _⟩ => ⟨S100000x512, .i1⟩
  | .hbm, ⟨14, _⟩ => ⟨S_, .f32⟩
  | .hbm, ⟨15, _⟩ => ⟨S100000x512, .f32⟩
  | .hbm, ⟨16, _⟩ => ⟨S100000x512, .f32⟩
  | .hbm, ⟨17, _⟩ => ⟨S100000x512, .f32⟩
  | .hbm, ⟨18, _⟩ => ⟨S100000x1, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S512, .f32⟩
  | .hbm, ⟨23, _⟩ => ⟨S100000x1, .i32⟩
  | .hbm, ⟨24, _⟩ => ⟨S512, .f32⟩
  | .hbm, ⟨25, _⟩ => ⟨S_, .i32⟩
  | .hbm, ⟨26, _⟩ => ⟨S100000, .i32⟩
  | .hbm, ⟨27, _⟩ => ⟨S100000, .i1⟩
  | .hbm, ⟨28, _⟩ => ⟨S_, .i32⟩
  | .hbm, ⟨29, _⟩ => ⟨S100000, .i32⟩
  | .hbm, ⟨30, _⟩ => ⟨S100000, .i32⟩
  | .hbm, ⟨31, _⟩ => ⟨S100000, .i32⟩
  | .hbm, ⟨32, _⟩ => ⟨S100000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x512, .f32⟩
  | .hbm, ⟨40, _⟩ => ⟨S100000x512, .f32⟩
  | .hbm, ⟨41, _⟩ => ⟨S_, .f32⟩
  | .hbm, ⟨42, _⟩ => ⟨S512x512, .f32⟩
  | .hbm, ⟨43, _⟩ => ⟨S100000x1, .i32⟩
  | .hbm, ⟨44, _⟩ => ⟨S512x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== ShiftedIdeal.lean ====
abbrev S100000x512 : Shape := ⟨2, ![100000, 512]⟩
abbrev S100000x3 : Shape := ⟨2, ![100000, 3]⟩
abbrev S100000 : Shape := ⟨1, ![100000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x512 : Shape := ⟨2, ![1, 512]⟩
abbrev S_ : Shape := ⟨0, ![]⟩
abbrev S100000x1 : Shape := ⟨2, ![100000, 1]⟩
abbrev S1x1 : Shape := ⟨2, ![1, 1]⟩
abbrev S1x100000 : Shape := ⟨2, ![1, 100000]⟩
abbrev S512x100000 : Shape := ⟨2, ![512, 100000]⟩

abbrev nBuf : Space → Nat
  | .hbm => 93
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000x3, .f32⟩
  | .hbm, ⟨2, _⟩ => ⟨S100000, .i32⟩
  | .hbm, ⟨3, _⟩ => ⟨S512x512, .f32⟩
  | .hbm, ⟨4, _⟩ => ⟨S512, .f32⟩
  | .hbm, ⟨5, _⟩ => ⟨S512x1, .f32⟩
  | .hbm, ⟨6, _⟩ => ⟨S1, .f32⟩
  | .hbm, ⟨7, _⟩ => ⟨S100000x512, .f32⟩
  | .hbm, ⟨8, _⟩ => ⟨S1x512, .f32⟩
  | .hbm, ⟨9, _⟩ => ⟨S100000x512, .f32⟩
  | .hbm, ⟨10, _⟩ => ⟨S100000x512, .f32⟩
  | .hbm, ⟨11, _⟩ => ⟨S_, .f32⟩
  | .hbm, ⟨12, _⟩ => ⟨S100000x512, .f32⟩
  | .hbm, ⟨13, _⟩ => ⟨S100000x512, .i1⟩
  | .hbm, ⟨14, _⟩ => ⟨S_, .f32⟩
  | .hbm, ⟨15, _⟩ => ⟨S100000x512, .f32⟩
  | .hbm, ⟨16, _⟩ => ⟨S100000x512, .f32⟩
  | .hbm, ⟨17, _⟩ => ⟨S100000x512, .f32⟩
  | .hbm, ⟨18, _⟩ => ⟨S100000x1, .f32⟩
  | .hbm, ⟨19, _⟩ => ⟨S1x1, .f32⟩
  | .hbm, ⟨20, _⟩ => ⟨S100000x1, .f32⟩
  | .hbm, ⟨21, _⟩ => ⟨S100000x1, .f32⟩
  | .hbm, ⟨22, _⟩ => ⟨S100000, .f32⟩
  | .hbm, ⟨23, _⟩ => ⟨S1x100000, .i32⟩
  | .hbm, ⟨24, _⟩ => ⟨S512, .i32⟩
  | .hbm, ⟨25, _⟩ => ⟨S512x1, .i32⟩
  | .hbm, ⟨26, _⟩ => ⟨S512x100000, .i32⟩
  | .hbm, ⟨27, _⟩ => ⟨S512x100000, .i32⟩
  | .hbm, ⟨28, _⟩ => ⟨S512x100000, .i1⟩
  | .hbm, ⟨29, _⟩ => ⟨S1x100000, .f32⟩
  | .hbm, ⟨30, _⟩ => ⟨S_, .f32⟩
  | .hbm, ⟨31, _⟩ => ⟨S_, .f32⟩
  | .hbm, ⟨32, _⟩ => ⟨S512x100000, .f32⟩
  | .hbm, ⟨33, _⟩ => ⟨S512x100000, .f32⟩
  | .hbm, ⟨34, _⟩ => ⟨S512x100000, .f32⟩
  | .hbm, ⟨35, _⟩ => ⟨S_, .f32⟩
  | .hbm, ⟨36, _⟩ => ⟨S512, .f32⟩
  | .hbm, ⟨37, _⟩ => ⟨S512, .f32⟩
  | .hbm, ⟨38, _⟩ => ⟨S_, .f32⟩
  | .hbm, ⟨39, _⟩ => ⟨S512, .f32⟩
  | .hbm, ⟨40, _⟩ => ⟨S512, .i1⟩
  | .hbm, ⟨41, _⟩ => ⟨S_, .f32⟩
  | .hbm, ⟨42, _⟩ => ⟨S_, .f32⟩
  | .hbm, ⟨43, _⟩ => ⟨S512, .f32⟩
  | .hbm, ⟨44, _⟩ => ⟨S512, .f32⟩
  | .hbm, ⟨45, _⟩ => ⟨S_, .i32⟩
  | .hbm, ⟨46, _⟩ => ⟨S100000, .i32⟩
  | .hbm, ⟨47, _⟩ => ⟨S100000, .i1⟩
  | .hbm, ⟨48, _⟩ => ⟨S_, .i32⟩
  | .hbm, ⟨49, _⟩ => ⟨S100000, .i32⟩
  | .hbm, ⟨50, _⟩ => ⟨S100000, .i32⟩
  | .hbm, ⟨51, _⟩ => ⟨S100000, .i32⟩
  | .hbm, ⟨52, _⟩ => ⟨S100000x1, .i32⟩
  | .hbm, ⟨53, _⟩ => ⟨S100000, .f32⟩
  | .hbm, ⟨54, _⟩ => ⟨S100000, .f32⟩
  | .hbm, ⟨55, _⟩ => ⟨S100000, .f32⟩
  | .hbm, ⟨56, _⟩ => ⟨S_, .f32⟩
  | .hbm, ⟨57, _⟩ => ⟨S512, .f32⟩
  | .hbm, ⟨58, _⟩ => ⟨S100000x1, .i32⟩
  | .hbm, ⟨59, _⟩ => ⟨S512, .f32⟩
  | .hbm, ⟨60, _⟩ => ⟨S_, .i32⟩
  | .hbm, ⟨61, _⟩ => ⟨S100000, .i32⟩
  | .hbm, ⟨62, _⟩ => ⟨S100000, .i1⟩
  | .hbm, ⟨63, _⟩ => ⟨S_, .i32⟩
  | .hbm, ⟨64, _⟩ => ⟨S100000, .i32⟩
  | .hbm, ⟨65, _⟩ => ⟨S100000, .i32⟩
  | .hbm, ⟨66, _⟩ => ⟨S100000, .i32⟩
  | .hbm, ⟨67, _⟩ => ⟨S100000x1, .i32⟩
  | .hbm, ⟨68, _⟩ => ⟨S100000, .f32⟩
  | .hbm, ⟨69, _⟩ => ⟨S_, .i32⟩
  | .hbm, ⟨70, _⟩ => ⟨S100000, .i32⟩
  | .hbm, ⟨71, _⟩ => ⟨S100000, .i1⟩
  | .hbm, ⟨72, _⟩ => ⟨S_, .i32⟩
  | .hbm, ⟨73, _⟩ => ⟨S100000, .i32⟩
  | .hbm, ⟨74, _⟩ => ⟨S100000, .i32⟩
  | .hbm, ⟨75, _⟩ => ⟨S100000, .i32⟩
  | .hbm, ⟨76, _⟩ => ⟨S100000x1, .i32⟩
  | .hbm, ⟨77, _⟩ => ⟨S100000, .f32⟩
  | .hbm, ⟨78, _⟩ => ⟨S100000, .f32⟩
  | .hbm, ⟨79, _⟩ => ⟨S100000, .f32⟩
  | .hbm, ⟨80, _⟩ => ⟨S100000, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S100000, .f32⟩
  | .hbm, ⟨85, _⟩ => ⟨S100000, .f32⟩
  | .hbm, ⟨86, _⟩ => ⟨S100000x1, .f32⟩
  | .hbm, ⟨87, _⟩ => ⟨S100000x512, .f32⟩
  | .hbm, ⟨88, _⟩ => ⟨S100000x512, .f32⟩
  | .hbm, ⟨89, _⟩ => ⟨S_, .f32⟩
  | .hbm, ⟨90, _⟩ => ⟨S512x512, .f32⟩
  | .hbm, ⟨91, _⟩ => ⟨S100000x1, .i32⟩
  | .hbm, ⟨92, _⟩ => ⟨S512x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_call2_v0 : Ref sig .tc := ⟨.hbm, 42, rfl⟩
abbrev main_call2_v1 : Ref sig .tc := ⟨.hbm, 43, rfl⟩
abbrev main_v26 : Ref sig .tc := ⟨.hbm, 44, rfl⟩
abbrev main_c : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_v39 : Ref sig .tc := ⟨.hbm, 61, rfl⟩
abbrev main_v40 : Ref sig .tc := ⟨.hbm, 62, rfl⟩
abbrev main_c_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩

abbrev nD : Nat := 1
abbrev τ : Topo := Topo.v7x

variable {F : FTy → Type} [FloatOps F]
-- ==== Proof.KState.lean ====
/- What one point of the kernel does to the two scratch buffers, as plain functions of the values of its blocks:
   the gate's exponentials of the point's rows, the window of rows its first segment number names, and the scratch after
   the point (`nextS` the numerators, `nextD` the denominators). No memory in it. -/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal

open Idealize.ShloMosaic Idealize.SL.Sem Cert.KernelIdeal.Gen

variable {F : FTy → Type} [FloatOps F]

/-- The first segment number of a block of rows, as the kernel loads it. -/
def loWord (b : Vec F S4000x1 .i32) : Vec F S1x1 .i32 := VecWindow.window b ![0, 0] S1x1.size inb_S4000x1_S1x1_0_0
/-- The last one. -/
def hiWord (b : Vec F S4000x1 .i32) : Vec F S1x1 .i32 := VecWindow.window b ![3999, 0] S1x1.size inb_S4000x1_S1x1_3999_0
/-- The first segment number, as a word. -/
abbrev lo (b : Vec F S4000x1 .i32) : BitVec 32 := extractAt ![0, 0] (loWord b) inpos_S1x1_p0_0
/-- The last segment number, as a word. -/
abbrev hi (b : Vec F S4000x1 .i32) : BitVec 32 := extractAt ![0, 0] (hiWord b) inpos_S1x1_p0_0

/-- The block's rows 0 to 1999. -/
def xLo (x : Vec F S4000x512 .f32) : Vec F S2000x512 .f32 := VecWindow.window x ![0, 0] S2000x512.size inb_S4000x512_S2000x512_0_0
/-- The block's rows 2000 to 3999. -/
def xHi (x : Vec F S4000x512 .f32) : Vec F S2000x512 .f32 := VecWindow.window x ![2000, 0] S2000x512.size inb_S4000x512_S2000x512_2000_0

/-- The scratch of the numerators as the point's accumulation finds it: zeros at the first point. -/
def startS (i : grid0.Coords) (s : Vec F S512x512 .f32) : Vec F S512x512 .f32 :=
  if (i 0).val = 0 then k0_pay12 (F := F) else s
/-- The same of the denominators. -/
def startD (i : grid0.Coords) (d : Vec F S512x1 .f32) : Vec F S512x1 .f32 :=
  if (i 0).val = 0 then k0_pay13 (F := F) else d

/-- The numerators after a point that starts from `s`: the window's 128 rows replaced when the block's segments fit the
    window, all the rows otherwise. -/
def accS (b : Vec F S4000x1 .i32) (x : Vec F S4000x512 .f32) (w1 : Vec F S512x512 .bf16) (b1 w2 : Vec F S1x512 .f32)
    (s : Vec F S512x512 .f32) : Vec F S512x512 .f32 :=
  if h : k0_cond2 (lo b) (hi b) = 1#1 ∧ k0_chk1 (lo b) (hi b) then
    VecWindow.put s (k0_off1 (lo b)) S128x512.size
      (k0_pay4 (k0_pay19 w1 b1 w2 (xLo x)) (k0_pay22 w1 b1 w2 (xHi x)) (k0_pay23 b) (loWord b)
        (VecWindow.window s (k0_off1 (lo b)) S128x512.size (k0_off1_inb (lo b) (hi b) h.2 h.1)))
  else k0_pay9 (k0_pay19 w1 b1 w2 (xLo x)) (k0_pay22 w1 b1 w2 (xHi x)) (k0_pay23 b) s

/-- The denominators after a point that starts from `d`. -/
def accD (b : Vec F S4000x1 .i32) (x : Vec F S4000x512 .f32) (w1 : Vec F S512x512 .bf16) (b1 w2 : Vec F S1x512 .f32)
    (d : Vec F S512x1 .f32) : Vec F S512x1 .f32 :=
  if h : k0_cond2 (lo b) (hi b) = 1#1 ∧ k0_chk1 (lo b) (hi b) then
    VecWindow.put d (k0_off2 (lo b)) S128x1.size
      (k0_pay5 (k0_pay18 w1 b1 w2 (xLo x)) (k0_pay21 w1 b1 w2 (xHi x)) (k0_pay23 b) (loWord b)
        (VecWindow.window d (k0_off2 (lo b)) S128x1.size (k0_off2_inb (lo b) (hi b) h.2 h.1)))
  else k0_pay10 (k0_pay18 w1 b1 w2 (xLo x)) (k0_pay21 w1 b1 w2 (xHi x)) (k0_pay23 b) d

section
variable (b : Vec F S4000x1 .i32) (x : Vec F S4000x512 .f32) (w1 : Vec F S512x512 .bf16) (b1 w2 : Vec F S1x512 .f32)

/-- The numerators after a point whose segments fit the window. -/
theorem accS_narrow (s : Vec F S512x512 .f32) (hn : k0_cond2 (lo b) (hi b) = 1#1) (hc : k0_chk1 (lo b) (hi b)) :
    accS b x w1 b1 w2 s = VecWindow.put s (k0_off1 (lo b)) S128x512.size
      (k0_pay4 (k0_pay19 w1 b1 w2 (xLo x)) (k0_pay22 w1 b1 w2 (xHi x)) (k0_pay23 b) (loWord b)
        (VecWindow.window s (k0_off1 (lo b)) S128x512.size (k0_off1_inb (lo b) (hi b) hc hn))) := dif_pos ⟨hn, hc⟩

/-- The denominators after a point whose segments fit the window. -/
theorem accD_narrow (d : Vec F S512x1 .f32) (hn : k0_cond2 (lo b) (hi b) = 1#1) (hc : k0_chk1 (lo b) (hi b)) :
    accD b x w1 b1 w2 d = VecWindow.put d (k0_off2 (lo b)) S128x1.size
      (k0_pay5 (k0_pay18 w1 b1 w2 (xLo x)) (k0_pay21 w1 b1 w2 (xHi x)) (k0_pay23 b) (loWord b)
        (VecWindow.window d (k0_off2 (lo b)) S128x1.size (k0_off2_inb (lo b) (hi b) hc hn))) := dif_pos ⟨hn, hc⟩

/-- The numerators after a point whose segments do not fit the window. -/
theorem accS_wide (s : Vec F S512x512 .f32) (hn : ¬ k0_cond2 (lo b) (hi b) = 1#1) :
    accS b x w1 b1 w2 s = k0_pay9 (k0_pay19 w1 b1 w2 (xLo x)) (k0_pay22 w1 b1 w2 (xHi x)) (k0_pay23 b) s := dif_neg fun h => hn h.1

/-- The denominators after a point whose segments do not fit the window. -/
theorem accD_wide (d : Vec F S512x1 .f32) (hn : ¬ k0_cond2 (lo b) (hi b) = 1#1) :
    accD b x w1 b1 w2 d = k0_pay10 (k0_pay18 w1 b1 w2 (xLo x)) (k0_pay21 w1 b1 w2 (xHi x)) (k0_pay23 b) d := dif_neg fun h => hn h.1

end

/-- The numerators after the point at coordinates `i` that finds `s`. -/
def nextS (i : grid0.Coords) (b : Vec F S4000x1 .i32) (x : Vec F S4000x512 .f32) (w1 : Vec F S512x512 .bf16)
    (b1 w2 : Vec F S1x512 .f32) (s : Vec F S512x512 .f32) : Vec F S512x512 .f32 := accS b x w1 b1 w2 (startS i s)

/-- The denominators after the point at coordinates `i` that finds `d`. -/
def nextD (i : grid0.Coords) (b : Vec F S4000x1 .i32) (x : Vec F S4000x512 .f32) (w1 : Vec F S512x512 .bf16)
    (b1 w2 : Vec F S1x512 .f32) (d : Vec F S512x1 .f32) : Vec F S512x1 .f32 := accD b x w1 b1 w2 (startD i d)

end Cert.KernelIdeal

end
-- ==== Proof.KBody.lean ====
/- The kernel's body at one point, run: on whole staging buffers it leaves the inputs as they were and the two scratch
   buffers at `nextS` and `nextD` of what it found. -/
module

public import proofs.«01_k».proof.Proof.KState

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The first point's condition, as printed. -/
abbrev firstBit (i : grid0.Coords) : Prop :=
  (Scalar.cmpi .ne (Scalar.extui (Scalar.cmpi .eq (BitVec.ofNat 32 (i 0).val) 0#32)) 0#32 : BitVec 1) = 1#1

/-- The word of the window's first row, as printed. -/
abbrev startWord (v38 : BitVec 32) : BitVec 32 :=
  Scalar.minsi (Scalar.muli (Scalar.select (Scalar.andi (Scalar.cmpi .ne (Scalar.subi (Scalar.extui (Scalar.cmpi .sgt v38 0#32)) (Scalar.extui (Scalar.cmpi .slt v38 0#32))) (Scalar.subi (Scalar.extui (Scalar.cmpi .sgt 8#32 0#32)) (Scalar.extui (Scalar.cmpi .slt 8#32 0#32)))) (Scalar.cmpi .ne (Scalar.remsi v38 8#32) 0#32)) (Scalar.subi (Scalar.divsi v38 8#32) 1#32) (Scalar.divsi v38 8#32)) 8#32) 384#32

/-- The second branch's condition, as printed. -/
abbrev wideBit (v38 v40 : BitVec 32) : Prop :=
  (Scalar.cmpi .ne (Scalar.extui (Scalar.xori (Scalar.cmpi .slt v40 (Scalar.addi (startWord v38) 128#32)) 1#1)) 0#32 : BitVec 1) = 1#1

theorem wideBit_iff (v38 v40 : BitVec 32) : wideBit v38 v40 ↔ ¬ k0_cond2 v38 v40 = 1#1 := by
  have key : ∀ b : BitVec 1, (Scalar.cmpi .ne (Scalar.extui (Scalar.xori b 1#1) : BitVec 32) 0#32 : BitVec 1) = 1#1
      ↔ ¬ (Scalar.cmpi .ne (Scalar.extui b : BitVec 32) 0#32 : BitVec 1) = 1#1 := by decide
  exact key (Scalar.cmpi .slt v40 (Scalar.addi (startWord v38) 128#32))

/-- A load of the numerators (or the output block) whole reads what is there. -/
theorem load_all_S (v : View sig .tc .vmem S512x512 .f32) (f : v.ty.Contents (Elt F)) (inb : ∀ a, (![0, 0] : Fin 2 → ℕ) a + (![512, 512] : Fin 2 → ℕ) a ≤ S512x512.size a) :
    v.readAt (Elt F) (Rect.unit (s := S512x512) ![0, 0] ![512, 512] inb).toLoadRect f = v.read (Elt F) f := View.readAt_full v f inb

/-- After a store of the numerators (or the output block) whole the payload is there. -/
theorem store_all_S (v : View sig .tc .vmem S512x512 .f32) (f : v.ty.Contents (Elt F)) (inb : ∀ a, (![0, 0] : Fin 2 → ℕ) a + (![512, 512] : Fin 2 → ℕ) a ≤ S512x512.size a)
    (w : (Rect.unit (s := S512x512) ![0, 0] ![512, 512] inb).shape.Idx → Elt F .f32) (L : List (View.Piece (Elt F) S512x512 .f32)) :
    v.read (Elt F) (v.writes (Elt F) f (⟨Rect.unit (s := S512x512) ![0, 0] ![512, 512] inb, w⟩ :: L)) = w := View.read_writes_full v f inb w L

/-- A load of 128 rows of the numerators (or the output block) reads a window. -/
theorem load_rows_S (v : View sig .tc .vmem S512x512 .f32) (f : v.ty.Contents (Elt F)) (off : Fin 2 → ℕ) (inb : ∀ a, off a + (![128, 512] : Fin 2 → ℕ) a ≤ S512x512.size a) :
    v.readAt (Elt F) (Rect.unit (s := S512x512) off ![128, 512] inb).toLoadRect f = VecWindow.window (v.read (Elt F) f) off ![128, 512] inb := rfl

/-- After a store of 128 rows of the numerators (or the output block) the payload lies over what was there. -/
theorem store_rows_S (v : View sig .tc .vmem S512x512 .f32) (f : v.ty.Contents (Elt F)) (off : Fin 2 → ℕ) (inb : ∀ a, off a + (![128, 512] : Fin 2 → ℕ) a ≤ S512x512.size a)
    (w : (Rect.unit (s := S512x512) off ![128, 512] inb).shape.Idx → Elt F .f32) (L : List (View.Piece (Elt F) S512x512 .f32)) :
    v.read (Elt F) (v.writes (Elt F) f (⟨Rect.unit (s := S512x512) off ![128, 512] inb, w⟩ :: L)) = VecWindow.put (v.read (Elt F) (v.writes (Elt F) f L)) off ![128, 512] w :=
  View.read_writes_cons_put v f inb w L rfl

/-- A load of the denominators whole reads what is there. -/
theorem load_all_D (v : View sig .tc .vmem S512x1 .f32) (f : v.ty.Contents (Elt F)) (inb : ∀ a, (![0, 0] : Fin 2 → ℕ) a + (![512, 1] : Fin 2 → ℕ) a ≤ S512x1.size a) :
    v.readAt (Elt F) (Rect.unit (s := S512x1) ![0, 0] ![512, 1] inb).toLoadRect f = v.read (Elt F) f := View.readAt_full v f inb

/-- After a store of the denominators whole the payload is there. -/
theorem store_all_D (v : View sig .tc .vmem S512x1 .f32) (f : v.ty.Contents (Elt F)) (inb : ∀ a, (![0, 0] : Fin 2 → ℕ) a + (![512, 1] : Fin 2 → ℕ) a ≤ S512x1.size a)
    (w : (Rect.unit (s := S512x1) ![0, 0] ![512, 1] inb).shape.Idx → Elt F .f32) (L : List (View.Piece (Elt F) S512x1 .f32)) :
    v.read (Elt F) (v.writes (Elt F) f (⟨Rect.unit (s := S512x1) ![0, 0] ![512, 1] inb, w⟩ :: L)) = w := View.read_writes_full v f inb w L

/-- A load of 128 rows of the denominators reads a window. -/
theorem load_rows_D (v : View sig .tc .vmem S512x1 .f32) (f : v.ty.Contents (Elt F)) (off : Fin 2 → ℕ) (inb : ∀ a, off a + (![128, 1] : Fin 2 → ℕ) a ≤ S512x1.size a) :
    v.readAt (Elt F) (Rect.unit (s := S512x1) off ![128, 1] inb).toLoadRect f = VecWindow.window (v.read (Elt F) f) off ![128, 1] inb := rfl

/-- After a store of 128 rows of the denominators the payload lies over what was there. -/
theorem store_rows_D (v : View sig .tc .vmem S512x1 .f32) (f : v.ty.Contents (Elt F)) (off : Fin 2 → ℕ) (inb : ∀ a, off a + (![128, 1] : Fin 2 → ℕ) a ≤ S512x1.size a)
    (w : (Rect.unit (s := S512x1) off ![128, 1] inb).shape.Idx → Elt F .f32) (L : List (View.Piece (Elt F) S512x1 .f32)) :
    v.read (Elt F) (v.writes (Elt F) f (⟨Rect.unit (s := S512x1) off ![128, 1] inb, w⟩ :: L)) = VecWindow.put (v.read (Elt F) (v.writes (Elt F) f L)) off ![128, 1] w :=
  View.read_writes_cons_put v f inb w L rfl

/-- The output block after the point: the quotient at the last point, what it held elsewhere. -/
def nextO (i : grid0.Coords) (s : Vec F S512x512 .f32) (d : Vec F S512x1 .f32) (o : Vec F S512x512 .f32) : Vec F S512x512 .f32 :=
  if k0_cond4 i = 1#1 then k0_pay11 s d else o

/-- The first point's condition is that the coordinate is zero. -/
theorem firstBit_iff (i : grid0.Coords) : firstBit i ↔ (i 0).val = 0 := by
  have key : ∀ n : Fin 25, ((Scalar.cmpi .ne (Scalar.extui (Scalar.cmpi .eq (BitVec.ofNat 32 n.val) 0#32)) 0#32 : BitVec 1) = 1#1) ↔ n.val = 0 := by decide
  exact key (i 0)

set_option maxHeartbeats 2000000 in
/-- THE BODY'S TRIPLE: on whole buffers, of a block whose window lies in the scratch (`hchk`), the body returns the inputs
    as they were, the scratch at `nextS` and `nextD`, the output block at `nextO`. -/
theorem body_triple (c : Dev nD) (i : grid0.Coords) (arg1 : Memref sig .tc .vmem S4000x1 .i32) (harg1 : arg1.IsWhole) (arg2 : Memref sig .tc .vmem S4000x512 .f32) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x1 .f32) (harg8 : arg8.IsWhole)
    (x0 : Vec F S4000x1 .i32) (x1 : Vec F S4000x512 .f32) (x2 : Vec F S512x512 .bf16) (x3 : Vec F S1x512 .f32) (x4 : Vec F S1x512 .f32) (s : Vec F S512x512 .f32) (d : Vec F S512x1 .f32)
    (hchk : k0_chk1 (lo x0) (hi x0)) (o : Vec F S512x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare o ∗ owns (c : Thread nD τ) arg7 fullShare s ∗ owns (c : Thread nD τ) arg8 fullShare d
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (nextO i (nextS i x0 x1 x2 x3 x4 s) (nextD i x0 x1 x2 x3 x4 d) o) ∗ owns (c : Thread nD τ) arg7 fullShare (nextS i x0 x1 x2 x3 x4 s) ∗ owns (c : Thread nD τ) arg8 fullShare (nextD i x0 x1 x2 x3 x4 d)) -∗ K ⟨⟩))
          ⊢ wp frame (wpE (defs₀ (F := F)) Variants.none c none) E (cc0__agg_block i arg1 harg1 arg2 harg2 arg3 harg3 arg4 harg4 arg5 harg5 arg6 harg6 arg7 harg7 arg8 harg8) K := by
  have eLo : arg1.view.readAt (Elt F) (Rect.unit (s := S4000x1) ![0, 0] S1x1.size inb_S4000x1_S1x1_0_0).toLoadRect (harg1.unread x0) = loWord x0 :=
    (View.readAt_unit arg1.view _ _ rfl inb_S4000x1_S1x1_0_0).trans (by rw [harg1.read_unread]; rfl)
  have eHi : arg1.view.readAt (Elt F) (Rect.unit (s := S4000x1) ![3999, 0] S1x1.size inb_S4000x1_S1x1_3999_0).toLoadRect (harg1.unread x0) = hiWord x0 :=
    (View.readAt_unit arg1.view _ _ rfl inb_S4000x1_S1x1_3999_0).trans (by rw [harg1.read_unread]; rfl)
  have eB : arg1.view.readAt (Elt F) (Rect.unit (s := S4000x1) ![0, 0] S4000x1.size inb_S4000x1_S4000x1_0_0).toLoadRect (harg1.unread x0) = x0 :=
    (View.readAt_full arg1.view _ _).trans (harg1.read_unread _)
  have eW1 : arg3.view.readAt (Elt F) (Rect.unit (s := S512x512) ![0, 0] S512x512.size inb_S512x512_S512x512_0_0).toLoadRect (harg3.unread x2) = x2 :=
    (View.readAt_full arg3.view _ _).trans (harg3.read_unread _)
  have eB1 : arg4.view.readAt (Elt F) (Rect.unit (s := S1x512) ![0, 0] S1x512.size inb_S1x512_S1x512_0_0).toLoadRect (harg4.unread x3) = x3 :=
    (View.readAt_full arg4.view _ _).trans (harg4.read_unread _)
  have eW2 : arg5.view.readAt (Elt F) (Rect.unit (s := S1x512) ![0, 0] S1x512.size inb_S1x512_S1x512_0_0).toLoadRect (harg5.unread x4) = x4 :=
    (View.readAt_full arg5.view _ _).trans (harg5.read_unread _)
  have eS : arg7.view.readAt (Elt F) (Rect.unit (s := S512x512) ![0, 0] S512x512.size inb_S512x512_S512x512_0_0).toLoadRect (harg7.unread s) = s :=
    (View.readAt_full arg7.view _ _).trans (harg7.read_unread _)
  have eD : arg8.view.readAt (Elt F) (Rect.unit (s := S512x1) ![0, 0] S512x1.size inb_S512x1_S512x1_0_0).toLoadRect (harg8.unread d) = d :=
    (View.readAt_full arg8.view _ _).trans (harg8.read_unread _)
  have eXlo : arg2.view.readAt (Elt F) (Rect.unit (s := S4000x512) ![0, 0] S2000x512.size inb_S4000x512_S2000x512_0_0).toLoadRect (harg2.unread x1) = xLo x1 :=
    (View.readAt_unit arg2.view _ _ rfl inb_S4000x512_S2000x512_0_0).trans (by rw [harg2.read_unread]; rfl)
  have eXhi : arg2.view.readAt (Elt F) (Rect.unit (s := S4000x512) ![2000, 0] S2000x512.size inb_S4000x512_S2000x512_2000_0).toLoadRect (harg2.unread x1) = xHi x1 :=
    (View.readAt_unit arg2.view _ _ rfl inb_S4000x512_S2000x512_2000_0).trans (by rw [harg2.read_unread]; rfl)
  have hchk' : k0_chk1 (extractAt ![0, 0] (loWord x0) inpos_S1x1_p0_0) (extractAt ![0, 0] (hiWord x0) inpos_S1x1_p0_0) := hchk
  by_cases hfirst : firstBit i <;> by_cases hn : k0_cond2 (extractAt ![0, 0] (loWord x0) inpos_S1x1_p0_0) (extractAt ![0, 0] (hiWord x0) inpos_S1x1_p0_0) = 1#1 <;> by_cases hlast : k0_cond4 i = 1#1
  all_goals
    first
      | have hw : ¬ wideBit (extractAt ![0, 0] (loWord x0) inpos_S1x1_p0_0) (extractAt ![0, 0] (hiWord x0) inpos_S1x1_p0_0) := fun h => (wideBit_iff _ _).mp h hn
      | have hw : wideBit (extractAt ![0, 0] (loWord x0) inpos_S1x1_p0_0) (extractAt ![0, 0] (hiWord x0) inpos_S1x1_p0_0) := (wideBit_iff _ _).mpr hn
    first
      | have hS : ∀ s, startS (F := F) i s = k0_pay12 (F := F) := fun s => if_pos ((firstBit_iff i).mp hfirst)
        have hD : ∀ d, startD (F := F) i d = k0_pay13 (F := F) := fun d => if_pos ((firstBit_iff i).mp hfirst)
      | have hS : ∀ s, startS (F := F) i s = s := fun s => if_neg fun h => hfirst ((firstBit_iff i).mpr h)
        have hD : ∀ d, startD (F := F) i d = d := fun d => if_neg fun h => hfirst ((firstBit_iff i).mpr h)
    first
      | have aS := fun s => accS_narrow x0 x1 x2 x3 x4 s hn hchk
        have aD := fun d => accD_narrow x0 x1 x2 x3 x4 d hn hchk
      | have aS := fun s => accS_wide x0 x1 x2 x3 x4 s hn
        have aD := fun d => accD_wide x0 x1 x2 x3 x4 d hn
    first
      | have hO : ∀ s d o, nextO (F := F) i s d o = k0_pay11 s d := fun s d o => if_pos hlast
      | have hO : ∀ s d o, nextO (F := F) i s d o = o := fun s d o => if_neg hlast
    simp only [cc0__agg_block_eq_skeleton]; unfold cc0__agg_block_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec (disch := first | sl_exact hfirst | sl_exact hchk' | sl_exact hn | sl_exact hw | sl_exact hlast)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr
      swap; · iexact H5
      ipureintro
      sl_unfold_run_names
      simp only [hO, nextS, nextD, hS, hD, aS, aD, View.readCov, load_all_S, load_all_D, load_rows_S, load_rows_D, store_all_S, store_all_D, store_rows_S, store_rows_D, View.writes_nil, harg6.read_unread, harg7.read_unread, harg8.read_unread]
    isplitl [HS0]
    · iexists _; isplitr
      swap; · iexact HS0
      ipureintro
      sl_unfold_run_names
      simp only [hO, nextS, nextD, hS, hD, aS, aD, View.readCov, load_all_S, load_all_D, load_rows_S, load_rows_D, store_all_S, store_all_D, store_rows_S, store_rows_D, View.writes_nil, harg6.read_unread, harg7.read_unread, harg8.read_unread]
    · iexists _; isplitr
      swap; · iexact HS1
      ipureintro
      sl_unfold_run_names
      simp only [hO, nextS, nextD, hS, hD, aS, aD, View.readCov, load_all_S, load_all_D, load_rows_S, load_rows_D, store_all_S, store_all_D, store_rows_S, store_rows_D, View.writes_nil, harg6.read_unread, harg7.read_unread, harg8.read_unread]

end Cert.KernelIdeal

end
-- ==== Proof.KWords.lean ====
/- The kernel's words: where the window of 128 rows begins, when a block's segments fit it, and that the window lies in the
   scratch, each for a segment number below 512. -/
module

public import proofs.«01_k».proof.Proof.KBody
public import Idealize.ShloMosaic.Lib.StableHlo.Predicate

@[expose] public section

set_option maxRecDepth 16384

noncomputable section

namespace Cert.KernelIdeal

open Idealize.ShloMosaic Idealize.SL.Sem Cert.KernelIdeal.Gen

/-- The first row of the window of a block whose first segment is `n`. -/
abbrev startRow (n : ℕ) : ℕ := min (8 * (n / 8)) 384

theorem startWord_fin : ∀ n : Fin 512, startWord (BitVec.ofNat 32 n.val) = BitVec.ofNat 32 (startRow n.val) := by decide +kernel

/-- The window's first row, of a word below 512. -/
theorem startWord_eq (w : BitVec 32) (h : w.toNat < 512) : startWord w = BitVec.ofNat 32 (startRow w.toNat) := by
  have e := startWord_fin ⟨w.toNat, h⟩
  have ew : BitVec.ofNat 32 w.toNat = w := by simp
  simpa [ew] using e

theorem startRow_le (n : ℕ) : startRow n ≤ n := by unfold startRow; omega
theorem startRow_le_384 (n : ℕ) : startRow n ≤ 384 := by unfold startRow; omega

theorem startWord_toNat (w : BitVec 32) (h : w.toNat < 512) : (startWord w).toNat = startRow w.toNat := by
  rw [startWord_eq w h, BitVec.toNat_ofNat]; have := startRow_le_384 w.toNat; omega

theorem off1_eq (w : BitVec 32) (h : w.toNat < 512) : k0_off1 w = ![startRow w.toNat, 0] := by
  rw [← startWord_toNat w h]; rfl
theorem off2_eq (w : BitVec 32) (h : w.toNat < 512) : k0_off2 w = ![startRow w.toNat, 0] := by
  rw [← startWord_toNat w h]; rfl

/-- The window lies in the scratch. -/
theorem chk_of_lt (a b : BitVec 32) (h : a.toNat < 512) : k0_chk1 a b := by
  have := startRow_le_384 a.toNat
  unfold k0_chk1
  rw [off1_eq a h, off2_eq a h]
  refine ⟨fun _ x => ?_, fun _ x => ?_⟩ <;> fin_cases x <;> simp <;> omega

/-- The kernel takes the window exactly when the last segment lies in it. -/
theorem cond2_iff (a b : BitVec 32) (ha : a.toNat < 512) (hb : b.toNat < 512) :
    k0_cond2 a b = 1#1 ↔ b.toNat < startRow a.toNat + 128 := by
  have h384 := startRow_le_384 a.toNat
  have hs : (startWord a + 128#32).toNat = startRow a.toNat + 128 := by
    rw [BitVec.toNat_add, startWord_toNat a ha]; simp; omega
  have e : k0_cond2 a b = Scalar.cmpi .ne (Scalar.extui (Scalar.cmpi .slt b (startWord a + 128#32))) 0#32 := rfl
  have hslt : (Scalar.cmpi .slt b (startWord a + 128#32) : BitVec 1) = 1#1 ↔ b.toNat < startRow a.toNat + 128 := by
    rw [← hs]
    exact StableHlo.Predicate.slt_iff_toNat (by omega) (by omega)
  rw [e, ← hslt]
  generalize (Scalar.cmpi .slt b (startWord a + 128#32) : BitVec 1) = v
  revert v; decide

end Cert.KernelIdeal

end
-- ==== Proof.KBlocks.lean ====
/- What each block of the kernel's arguments holds: the rows of the block at point `t` are the rows `4000 t` onwards of the
   array; the weights' blocks are the whole arrays. -/
module

public import proofs.«01_k».proof.Proof.KState
public import Idealize.ShloMosaic.Lib.Pipeline.ValueKit
public import Idealize.ShloMosaic.Lib.Claim
public import Idealize.ShloMosaic.Lib.Pointwise

@[expose] public section

set_option maxRecDepth 16384

noncomputable section

namespace Cert.KernelIdeal

open Idealize.ShloMosaic Idealize.ShloMosaic.TcCoe Idealize.SL.Sem Cert.KernelIdeal.Gen

variable {F : FTy → Type} [FloatOps F]
variable (m : (ℓ : Loc nD τ sig) → Buf (Elt F) ℓ)

/-- Row `r` of the block of point `t`, as a row of the array. -/
abbrev rowAt (t : Fin cfg0.N) (r : Fin 4000) : Fin 100000 :=
  ⟨4000 * t.val + r.val, by have := Nat.lt_of_lt_of_eq t.isLt N_0; omega⟩

theorem win_index : ∀ t : Fin cfg0.N, win0_0.index t = ![t.val, 0] ∧ win0_1.index t = ![t.val, 0] ∧ win0_2.index t = ![0, 0]
    ∧ win0_3.index t = ![0, 0] ∧ win0_4.index t = ![0, 0] := by decide +kernel

/-- The block of segment numbers. -/
theorem blk_batch (c : Dev nD) (t : Fin cfg0.N) (r : Fin 4000) (z : Fin 1) :
    (iblk m c 0 t : Vec F S4000x1 .i32) (ix2 r z) = (m ((c : Thread nD τ).loc main_arg2) : Vec F S100000 .i32) (ix1 (rowAt t r)) := by
  have hw := (win_index t).1
  blk_simp [iblk, hw]
  entry_read
  pointwise
  blk_ext [hw]

/-- The block of rows. -/
theorem blk_x (c : Dev nD) (t : Fin cfg0.N) (r : Fin 4000) (k : Fin 512) :
    (iblk m c 1 t : Vec F S4000x512 .f32) (ix2 r k) = (m ((c : Thread nD τ).loc main_arg0) : Vec F S100000x512 .f32) (ix2 (rowAt t r) k) := by
  have hw := (win_index t).2.1
  blk_ext [iblk, V, hw]

/-- The block of the first weights: the whole array, rounded. -/
theorem blk_w1 (c : Dev nD) (t : Fin cfg0.N) (k l : Fin 512) :
    (iblk m c 2 t : Vec F S512x512 .bf16) (ix2 k l) = FloatOps.truncf .bf16 (by decide) ((m ((c : Thread nD τ).loc main_arg3) : Vec F S512x512 .f32) (ix2 k l)) := by
  have hw := (win_index t).2.2.1
  blk_simp [iblk, hw]
  entry_read
  pointwise
  refine congrArg (FloatOps.truncf .bf16 (by decide)) ?_
  show (m ((c : Thread nD τ).loc main_arg3) : Vec F S512x512 .f32) _ = (m ((c : Thread nD τ).loc main_arg3) : Vec F S512x512 .f32) _
  blk_ext [hw]

/-- The block of the first bias: the whole array. -/
theorem blk_b1 (c : Dev nD) (t : Fin cfg0.N) (z : Fin 1) (l : Fin 512) :
    (iblk m c 3 t : Vec F S1x512 .f32) (ix2 z l) = (m ((c : Thread nD τ).loc main_arg4) : Vec F S512 .f32) (ix1 l) := by
  have hw := (win_index t).2.2.2.1
  blk_simp [iblk, hw]
  entry_read
  pointwise
  blk_ext [hw]

/-- The block of the second weights: the whole array. -/
theorem blk_w2 (c : Dev nD) (t : Fin cfg0.N) (z : Fin 1) (l : Fin 512) :
    (iblk m c 4 t : Vec F S1x512 .f32) (ix2 z l) = (m ((c : Thread nD τ).loc main_arg5) : Vec F S512x1 .f32) (ix2 l 0) := by
  have hw := (win_index t).2.2.2.2
  blk_simp [iblk, hw]
  entry_read
  pointwise
  blk_ext [hw]

end Cert.KernelIdeal

end
-- ==== Proof.KLaunch.lean ====
/- The kernel's launch: what the scratch holds before each point of the grid, the proof data of the pipeline, the body's
   obligation at every point, and the run of @main. Everything is over a hypothesis on the blocks of segment numbers: where
   a block's segments fit the window, the window's rows are rows of the scratch (`Chk`). -/
module

public import proofs.«01_k».proof.Proof.KBody
public import Idealize.ShloMosaic.Lib.Claim

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

/-! ## The scratch before each point -/

/-- The numerators before point `n` (zeros before the first, which the first point writes itself). -/
def scrS (c : Dev nD) : ℕ → Vec F S512x512 .f32
  | 0 => k0_pay12 (F := F)
  | n + 1 => if h : n < cfg0.N then
      nextS (grid0.coords ⟨n, h⟩) (iblk m c 0 ⟨n, h⟩) (iblk m c 1 ⟨n, h⟩) (iblk m c 2 ⟨n, h⟩) (iblk m c 3 ⟨n, h⟩) (iblk m c 4 ⟨n, h⟩) (scrS c n)
    else scrS c n

/-- The denominators before point `n`. -/
def scrD (c : Dev nD) : ℕ → Vec F S512x1 .f32
  | 0 => k0_pay13 (F := F)
  | n + 1 => if h : n < cfg0.N then
      nextD (grid0.coords ⟨n, h⟩) (iblk m c 0 ⟨n, h⟩) (iblk m c 1 ⟨n, h⟩) (iblk m c 2 ⟨n, h⟩) (iblk m c 3 ⟨n, h⟩) (iblk m c 4 ⟨n, h⟩) (scrD c n)
    else scrD c n

/-- The numerators after point `t` are its step from those before it. -/
theorem scrS_succ (c : Dev nD) (t : Fin cfg0.N) : scrS m c (t.val + 1)
    = nextS (grid0.coords t) (iblk m c 0 t) (iblk m c 1 t) (iblk m c 2 t) (iblk m c 3 t) (iblk m c 4 t) (scrS m c t.val) :=
  dif_pos t.isLt

/-- The denominators after point `t` are its step from those before it. -/
theorem scrD_succ (c : Dev nD) (t : Fin cfg0.N) : scrD m c (t.val + 1)
    = nextD (grid0.coords t) (iblk m c 0 t) (iblk m c 1 t) (iblk m c 2 t) (iblk m c 3 t) (iblk m c 4 t) (scrD m c t.val) :=
  dif_pos t.isLt

/-- The grid has one axis: a point's coordinate is its number. -/
theorem coord_val (t : Fin cfg0.N) : (grid0.coords t 0).val = t.val := by
  have ht : t.val < 25 := Nat.lt_of_lt_of_eq t.isLt N_0
  have e : (grid0.coords t 0).val = t.val / 1 % 25 := Pipeline.Grid.coords_val t 0 (by decide) rfl
  omega

/-- The first point's step does not look at what it finds. -/
theorem nextS_first (i : grid0.Coords) (hi : (i 0).val = 0) (b : Vec F S4000x1 .i32) (x : Vec F S4000x512 .f32) (w1 : Vec F S512x512 .bf16)
    (b1 w2 : Vec F S1x512 .f32) (s s' : Vec F S512x512 .f32) : nextS i b x w1 b1 w2 s = nextS i b x w1 b1 w2 s' := by
  unfold nextS startS; rw [if_pos hi, if_pos hi]
/-- The same of the denominators. -/
theorem nextD_first (i : grid0.Coords) (hi : (i 0).val = 0) (b : Vec F S4000x1 .i32) (x : Vec F S4000x512 .f32) (w1 : Vec F S512x512 .bf16)
    (b1 w2 : Vec F S1x512 .f32) (s s' : Vec F S512x1 .f32) : nextD i b x w1 b1 w2 s = nextD i b x w1 b1 w2 s' := by
  unfold nextD startD; rw [if_pos hi, if_pos hi]

/-- The hypothesis on the blocks of segment numbers the kernel reads: its window lies in the scratch wherever it is used. -/
abbrev Chk : Prop := ∀ (c : Dev nD) (t : Fin cfg0.N), k0_chk1 (lo (F := F) (iblk m c 0 t)) (hi (F := F) (iblk m c 0 t))

/-! ## The pipeline's proof data -/

/-- The two scratch buffers as memrefs. -/
abbrev scrM0 : Memref sig .tc .vmem S512x512 .f32 := Memref.whole cc0_scratch0
/-- The second. -/
abbrev scrM1 : Memref sig .tc .vmem S512x1 .f32 := Memref.whole cc0_scratch1

/-- The invariant before point `n`: the two scratch buffers at what the points before left, beside the generator. -/
def Inv (c : Dev nD) : (n : ℕ) → n ≤ cfg0.N → sProp 𝕄
  | 0, _ => Pipeline.ΦA spec0 c
  | n + 1, _ => iprop(iprop(owns (c : Thread nD τ) scrM0 fullShare (scrS m c (n + 1)) ∗ owns (c : Thread nD τ) scrM1 fullShare (scrD m c (n + 1))) ∗ (∃ r, prngReg c r))

theorem Inv_zero (c : Dev nD) (n : ℕ) (h : n ≤ cfg0.N) (hz : n = 0) : Inv m c n h = Pipeline.ΦA spec0 c := by subst hz; rfl

theorem Inv_succ (c : Dev nD) (n : ℕ) (h : n < cfg0.N) : Inv m c (n + 1) h
    = iprop(iprop(owns (c : Thread nD τ) scrM0 fullShare (scrS m c (n + 1)) ∗ owns (c : Thread nD τ) scrM1 fullShare (scrD m c (n + 1))) ∗ (∃ r, prngReg c r)) := rfl

theorem Inv_pos (c : Dev nD) (n : ℕ) (h : n ≤ cfg0.N) (hz : n ≠ 0) : Inv m c n h
    = iprop(iprop(owns (c : Thread nD τ) scrM0 fullShare (scrS m c n) ∗ owns (c : Thread nD τ) scrM1 fullShare (scrD m c n)) ∗ (∃ r, prngReg c r)) := by
  cases n with
  | zero => exact absurd rfl hz
  | succ n => rfl

/-- What the launch hands over: the two scratch buffers at some contents, beside the generator. -/
theorem handed_eq (c : Dev nD) : (Pipeline.ΦA spec0 c : sProp 𝕄)
    = iprop(iprop((∃ d, owns (c : Thread nD τ) scrM0 fullShare d) ∗ (∃ d, owns (c : Thread nD τ) scrM1 fullShare d)) ∗ (∃ r, prngReg c r)) := by
  unfold Pipeline.ΦA; rw [scopedRest0_eq]; simp only [scrM0, scrM1, owns_whole]; try rfl

/-- The proof data: each input's buffer holds its block, the output's the quotient of the scratch after the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay11 (scrS m c (t.val + 1)) (scrD m c (t.val + 1))
  Φ t := Inv m c t.val (Nat.le_of_lt_succ t.isLt)
  q _ := fullShare
  owed _ := 0

theorem A_eq (c : Dev nD) (w : Fin cfg0.W) : (dats m 0 c).A w = V m c (Pipeline.arrRef spec0 w) := by dsimp only [dats]

theorem Inv_castSucc (c : Dev nD) (t : Fin cfg0.N) : (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
/-- What the output's buffer holds after the body at a point. -/
theorem after_5 (c : Dev nD) (t : Fin cfg0.N) : (dats m 0 c).after 5 t = k0_pay11 (scrS m c (t.val + 1)) (scrD m c (t.val + 1)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The output window is idle at every point but the last -/

theorem idle_early : ∀ t : Fin cfg0.N, ¬ k0_cond4 (grid0.coords t) = 1#1 → cfg0.idle 5 (grid0.coords t) = true := by decide +kernel
theorem live_last : ∀ t : Fin cfg0.N, k0_cond4 (grid0.coords t) = 1#1 → cfg0.idle 5 (grid0.coords t) = false := by decide +kernel
theorem no_flush_early : ∀ t : Fin cfg0.N, ¬ k0_cond4 (grid0.coords t) = 1#1 → (cfg0.win 5).flush t = false := by decide +kernel

/-! ## The body's obligation -/

/-- Window 0's buffer at point `t`; likewise the other five. -/
abbrev stg0 (t : Fin cfg0.N) : Memref sig .tc .vmem S4000x1 .i32 := win0_0.stage (cfg0.slots t 0)
abbrev stg1 (t : Fin cfg0.N) : Memref sig .tc .vmem S4000x512 .f32 := win0_1.stage (cfg0.slots t 1)
abbrev stg2 (t : Fin cfg0.N) : Memref sig .tc .vmem S512x512 .bf16 := win0_2.stage (cfg0.slots t 2)
abbrev stg3 (t : Fin cfg0.N) : Memref sig .tc .vmem S1x512 .f32 := win0_3.stage (cfg0.slots t 3)
abbrev stg4 (t : Fin cfg0.N) : Memref sig .tc .vmem S1x512 .f32 := win0_4.stage (cfg0.slots t 4)
abbrev stg5 (t : Fin cfg0.N) : Memref sig .tc .vmem S512x512 .f32 := win0_5.stage (cfg0.slots t 5)

/-- What the body is called with at point `t`. -/
def given (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d)))

/-- What it returns. -/
def returned (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves_0 (c : Dev nD) (t : Fin cfg0.N) : (dats m 0 c).leavesExact 0 t = owns (c : Thread nD τ) (stg0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (stg1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (stg2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (stg3 t) fullShare (iblk m c 3 t) := by
  unfold Dat.leavesExact; rw [show cfg0.idle 3 (cfg0.grid.coords t) = false from rfl, after_3]
theorem leaves_4 (c : Dev nD) (t : Fin cfg0.N) : (dats m 0 c).leavesExact 4 t = owns (c : Thread nD τ) (stg4 t) fullShare (iblk m c 4 t) := by
  unfold Dat.leavesExact; rw [show cfg0.idle 4 (cfg0.grid.coords t) = false from rfl, after_4]

/-- The output's buffer after a point, from what the body left there: at the last point the quotient, before it what
    the point found. -/
theorem leaves_5 (c : Dev nD) (t : Fin cfg0.N) (d : Vec F S512x512 .f32) :
    owns (c : Thread nD τ) (stg5 t) fullShare (nextO (grid0.coords t) (scrS m c (t.val + 1)) (scrD m c (t.val + 1)) ((dats m 0 c).before 5 t d))
      ⊢ (dats m 0 c).leavesExact 5 t := by
  by_cases hl : k0_cond4 (grid0.coords t) = 1#1
  · rw [show (dats m 0 c).leavesExact 5 t = owns (c : Thread nD τ) (stg5 t) fullShare ((dats m 0 c).after 5 t) from by
      unfold Dat.leavesExact; rw [live_last t hl], after_5]
    unfold nextO; rw [if_pos hl]
  · rw [Dat.leavesExact_idle (dats m 0 c) 5 t (idle_early t hl) (no_flush_early t hl)]
    unfold nextO; rw [if_neg hl]
    iintro H; iexists _; iexact H

/-- The body at any point whose scratch holds `s` and `d`, of which its step is the step from the recorded state. -/
theorem step_body (hchk : Chk m) (c : Dev nD) (t : Fin cfg0.N) (s : Vec F S512x512 .f32) (d : Vec F S512x1 .f32)
    (hs : nextS (grid0.coords t) (iblk m c 0 t) (iblk m c 1 t) (iblk m c 2 t) (iblk m c 3 t) (iblk m c 4 t) s = scrS m c (t.val + 1))
    (hd : nextD (grid0.coords t) (iblk m c 0 t) (iblk m c 1 t) (iblk m c 2 t) (iblk m c 3 t) (iblk m c 4 t) d = scrD m c (t.val + 1)) :
    iprop(iprop(iprop(owns (c : Thread nD τ) scrM0 fullShare s ∗ owns (c : Thread nD τ) scrM1 fullShare d) ∗ (∃ r, prngReg c r))
        ∗ (dats m 0 c).owesAt () t.castSucc
        ∗ (∃ d, owns (c : Thread nD τ) (stg0 t) fullShare ((dats m 0 c).before 0 t d))
        ∗ (∃ d, owns (c : Thread nD τ) (stg1 t) fullShare ((dats m 0 c).before 1 t d))
        ∗ (∃ d, owns (c : Thread nD τ) (stg2 t) fullShare ((dats m 0 c).before 2 t d))
        ∗ (∃ d, owns (c : Thread nD τ) (stg3 t) fullShare ((dats m 0 c).before 3 t d))
        ∗ (∃ d, owns (c : Thread nD τ) (stg4 t) fullShare ((dats m 0 c).before 4 t d))
        ∗ (∃ d, owns (c : Thread nD τ) (stg5 t) fullShare ((dats m 0 c).before 5 t d)))
      ⊢ wp frame (wpE (defs₀ (F := F)) Variants.none c none) Set.univ (bodyAt0 t) (fun _ => returned m c t) := by
  unfold returned bodyAt0
  simp only [before_0, before_1, before_2, before_3, before_4]
  rw [show (dats m 0 c).owesAt () t.succ = (dats m 0 c).owesAt () t.castSucc from rfl,
    show (dats m 0 c).Φ t.succ = Inv m c (t.val + 1) t.isLt from rfl, Inv_succ,
    leaves_0, leaves_1, leaves_2, leaves_3, leaves_4]
  iintro ⟨⟨⟨HS, HD⟩, Hg⟩, Ho, ⟨%d0, H0⟩, ⟨%d1, H1⟩, ⟨%d2, H2⟩, ⟨%d3, H3⟩, ⟨%d4, H4⟩, ⟨%d5, H5⟩⟩
  iapply (body_triple c (grid0.coords t) _ _ _ _ _ _ _ _ _ _ _ _ _ _ _ _ (iblk m c 0 t) (iblk m c 1 t) (iblk m c 2 t) (iblk m c 3 t) (iblk m c 4 t) s d (hchk c t) ((dats m 0 c).before 5 t d5) Set.univ _)
  rw [hs, hd]
  isplitl [H0]; · iexact H0
  isplitl [H1]; · iexact H1
  isplitl [H2]; · iexact H2
  isplitl [H3]; · iexact H3
  isplitl [H4]; · iexact H4
  isplitl [H5]; · iexact H5
  isplitl [HS]; · iexact HS
  isplitl [HD]; · iexact HD
  iintro ⟨H0, H1, H2, H3, H4, H5, HS, HD⟩
  isplitl [HS HD Hg]
  · isplitl [HS HD]
    · isplitl [HS]; · iexact HS
      iexact HD
    iexact Hg
  isplitl [Ho]; · iexact Ho
  isplitl [H0]; · iexact H0
  isplitl [H1]; · iexact H1
  isplitl [H2]; · iexact H2
  isplitl [H3]; · iexact H3
  isplitl [H4]; · iexact H4
  iapply (leaves_5 m c t d5)
  iexact H5

/-- The body at any point. -/
theorem sound_body (hchk : Chk m) (c : Dev nD) (t : Fin cfg0.N) :
    given m c t ⊢ wp frame (wpE (defs₀ (F := F)) Variants.none c none) Set.univ (bodyAt0 t) (fun _ => returned m c t) := by
  unfold given
  rw [Inv_castSucc]
  by_cases hz : t.val = 0
  · rw [Inv_zero m c _ _ hz, handed_eq]
    have hi : (grid0.coords t 0).val = 0 := (coord_val t).trans hz
    iintro ⟨⟨⟨⟨%s, HS⟩, ⟨%d, HD⟩⟩, Hg⟩, HR⟩
    iapply (step_body m hchk c t s d ((nextS_first _ hi _ _ _ _ _ _ _).trans (scrS_succ m c t).symm) ((nextD_first _ hi _ _ _ _ _ _ _).trans (scrD_succ m c t).symm))
    isplitl [HS HD Hg]
    · isplitl [HS HD]
      · isplitl [HS]; · iexact HS
        iexact HD
      iexact Hg
    iexact HR
  · rw [Inv_pos m c _ _ hz]
    exact step_body m hchk c t _ _ (scrS_succ m c t).symm (scrD_succ m c t).symm

theorem body_row (t : Fin cfg0.N) : defs₀ (F := F) .tc cfg0.body (cfg0.bodyArgs t (cfg0.slots t)) = bodyAt0 t := by
  unfold defs₀; rw [Defs.onTc_tc]

/-- The body's obligation to the pipeline, at every point. -/
theorem body_obligation (hchk : Chk m) (c : Dev nD) : BodyObligation (dats (F := F) m 0 c) (defs₀ (F := F)) Variants.none () Set.univ := fun t => by
  rw [bigSep_W0, bigSep_W0, body_row]
  exact triple_restated (sound_body m hchk c t) rfl .rfl fun _ => .rfl

theorem inv_in (c : Dev nD) : Pipeline.ΦA spec0 c ⊢ (dats m 0 c).Φ 0 := by
  rw [show (dats m 0 c).Φ 0 = Inv m c 0 (Nat.zero_le _) from rfl, Inv_zero m c 0 _ rfl]

theorem inv_out (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl,
    Inv_pos m c _ _ (by rw [Fin.val_last]; have : cfg0.N = 25 := N_0; omega), handed_eq]
  iintro ⟨⟨HS, HD⟩, Hg⟩
  isplitl [HS HD]
  · isplitl [HS]
    · iexists _; iexact HS
    iexists _; iexact HD
  iexact Hg

/-! ## The run -/

set_option backward.isDefEq.respectTransparency.types false in
/-- The launch: every fair execution of @main ends, with the pipeline's arrays at what the proof data says, the other
    arrays as they were, and every semaphore counter at zero. -/
theorem run_counters (hchk : Chk m) : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m hchk c).loose) (hshare := fun c => (dats m 0 c).share_full fun _ => rfl)
    (howed := fun _ _ => rfl) (V := V m) (hmain := hmain m Variants.none) (hA := A_eq m) (hin := inv_in m) (hout := inv_out m)

/-- The same without the counters. -/
theorem run_arrays (hchk : Chk m) : θ_run defs (onTc (τ := τ) (main (F := F))) (s₀ m ρ) (Pipeline.FramePost cfgs (dats m) 0 (V m)) :=
  (θ_run defs _ _).mono (fun _ h => h.1) (run_counters m ρ hchk)

/-- @main ends with its arguments unchanged and every counter at zero. -/
theorem frame_run (hchk : Chk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_arrays m ρ hchk)) ((θ_run defs _ _).mono (fun _ h => h.2) (run_counters m ρ hchk))

end Cert.KernelIdeal

end
-- ==== Proof.Batch.lean ====
/- The precondition read as a property of the segment numbers: each is below 512, and they do not decrease along the rows. -/
module

public import proofs.«01_k».proof.Pre_sorted_batch
public import Idealize.ShloMosaic.Lib.StableHlo.Predicate
public import Idealize.ShloMosaic.Lib.ReduceAll
public import Idealize.ShloMosaic.Lib.Pointwise

@[expose] public section

set_option maxRecDepth 16384

noncomputable section

namespace Cert.Batch

open Idealize.ShloMosaic Cert.Pre_sorted_batch

/-- Every segment number is below 512 and the numbers do not decrease. -/
structure Sorted (b : IVec S100000 32) : Prop where
  lt : ∀ n : Fin 100000, (b (ix1 n)).toNat < 512
  mono : ∀ i j : Fin 100000, i ≤ j → (b (ix1 i)).toNat ≤ (b (ix1 j)).toNat

theorem toNat_lt_of_bounds {w : BitVec 32} (h0 : IntOp.cmpi .sge w 0#32 = 1#1) (h1 : IntOp.cmpi .slt w 512#32 = 1#1) :
    w.toNat < 512 := by
  unfold IntOp.cmpi at h0 h1
  simp only [StableHlo.Predicate.ofBool_eq_one_iff, BitVec.sle, BitVec.slt, decide_eq_true_eq, BitVec.toInt, BitVec.toNat_ofNat] at h0 h1
  omega

/-- The precondition says that the segment numbers are sorted and in range. -/
theorem sorted_of_pre [Facts] {F : FTy → Type} [FloatOps F] (a0 : FVec F S100000x512 .f32) (a1 : FVec F S100000x3 .f32)
    (b : IVec S100000 32) (a3 : FVec F S512x512 .f32) (a4 : FVec F S512 .f32) (a5 : FVec F S512x1 .f32) (a6 : FVec F S1 .f32)
    (h : fn (F := F) a0 a1 b a3 a4 a5 a6 = fun _ => 1#1) : Sorted b := by
  have e := congrFun h (fun a => a.elim0)
  unfold fn at e
  dsimp only at e
  haveI : Subsingleton S_.Idx := ⟨fun p q => funext fun a => a.elim0⟩
  obtain ⟨e12, e3⟩ := IntOp.andi_eq_one.1 e
  obtain ⟨e1, e2⟩ := IntOp.andi_eq_one.1 e12
  have lt : ∀ n : Fin 100000, (b (ix1 n)).toNat < 512 := fun n =>
    toNat_lt_of_bounds (Host.reduce_andi_all _ _ _ _ _ e1 (ix1 n)) (Host.reduce_andi_all _ _ _ _ _ e2 (ix1 n))
  have step : ∀ n : ℕ, ∀ hn : n + 1 < 100000, (b (ix1 ⟨n, by omega⟩)).toNat ≤ (b (ix1 ⟨n + 1, hn⟩)).toNat := by
    intro n hn
    have r := Host.reduce_andi_all _ _ _ _ _ e3 (ix1 (⟨n, by omega⟩ : Fin 99999))
    have r' : IntOp.cmpi .sle (b (ix1 (⟨n, by omega⟩ : Fin 100000))) (b (ix1 (⟨n + 1, hn⟩ : Fin 100000))) = 1#1 := by
      rw [← r]
      pointwise
      simp only [Nat.add_comm 1 n]
    exact (StableHlo.Predicate.sle_iff_toNat (by have := lt ⟨n, by omega⟩; omega) (by have := lt ⟨n + 1, hn⟩; omega)).1 r'
  refine ⟨lt, fun i j hij => ?_⟩
  obtain ⟨i, hi⟩ := i
  obtain ⟨j, hj⟩ := j
  have hij' : i ≤ j := hij
  induction j, hij' using Nat.le_induction with
  | base => exact le_refl _
  | succ n hn ih => exact (ih (by omega) (by exact hn)).trans (step n hj)

end Cert.Batch

end
-- ==== Proof.KChk.lean ====
/- The window lies in the scratch at every point of a run whose segment numbers are sorted and in range. -/
module

public import proofs.«01_k».proof.Proof.KWords
public import proofs.«01_k».proof.Proof.KBlocks
public import proofs.«01_k».proof.Proof.KLaunch
public import proofs.«01_k».proof.Proof.Batch

@[expose] public section

set_option maxRecDepth 16384

noncomputable section

namespace Cert.KernelIdeal

open Idealize.ShloMosaic Idealize.ShloMosaic.TcCoe Idealize.SL.Sem Cert.KernelIdeal.Gen

variable {F : FTy → Type} [FloatOps F]

/-- The first segment number of a block is the block's row 0. -/
theorem lo_eq (b : Vec F S4000x1 .i32) : lo b = b (ix2 0 0) := by
  show b _ = b _
  refine congrArg b (funext fun a => Fin.ext ?_)
  fin_cases a <;> rfl

/-- The last segment number of a block is the block's row 3999. -/
theorem hi_eq (b : Vec F S4000x1 .i32) : hi b = b (ix2 3999 0) := by
  show b _ = b _
  refine congrArg b (funext fun a => Fin.ext ?_)
  fin_cases a <;> rfl

variable (m : (ℓ : Loc nD τ sig) → Buf (Elt F) ℓ)

/-- The segment numbers of the run on device `c`. -/
abbrev segs (c : Dev nD) : IVec S100000 32 := (m ((c : Thread nD τ).loc main_arg2) : Vec F S100000 .i32)

/-- The first segment number of the block at point `t`. -/
theorem lo_blk (c : Dev nD) (t : Fin cfg0.N) : lo (F := F) (iblk m c 0 t) = segs m c (ix1 (rowAt t 0)) := by
  rw [lo_eq]; exact blk_batch m c t 0 0

/-- The last segment number of the block at point `t`. -/
theorem hi_blk (c : Dev nD) (t : Fin cfg0.N) : hi (F := F) (iblk m c 0 t) = segs m c (ix1 (rowAt t 3999)) := by
  rw [hi_eq]; exact blk_batch m c t 3999 0

/-- With the segment numbers in range the window lies in the scratch. -/
theorem chk_of_sorted (h : ∀ c, Batch.Sorted (segs m c)) : Chk m := fun c t =>
  chk_of_lt _ _ (by rw [lo_blk]; exact (h c).lt _)

end Cert.KernelIdeal

end
-- ==== Proof.RowMath.lean ====
/- The mathematics of one row over the extended reals: the hidden layer, the gate and the row's weight. -/
module

public import Idealize.ShloMosaic.Lib.Pointwise

@[expose] public section

noncomputable section

namespace Cert.RowMath

open Idealize.ShloMosaic

/-- The slope of the leaky rectifier: the f32 nearest 0.01. -/
def slope : EReal := Ideal.ofBits FTy.f32 0x3C23D70A#32

/-- The guard of the denominators: the f32 nearest 1e-16. -/
def guard : EReal := Ideal.ofBits FTy.f32 0x24E69595#32

/-- Unit `l` of the hidden layer at a row `xr`. -/
def hidden (xr : Fin 512 → EReal) (w1 : Fin 512 → Fin 512 → EReal) (b1 : Fin 512 → EReal) (l : Fin 512) : EReal :=
  (∑ k, xr k * w1 k l) + b1 l

/-- The gate of a row: the rectified hidden layer against the second weights. -/
def gate (xr : Fin 512 → EReal) (w1 : Fin 512 → Fin 512 → EReal) (b1 w2 : Fin 512 → EReal) : EReal :=
  ∑ l, max (hidden xr w1 b1 l) (slope * hidden xr w1 b1 l) * w2 l

/-- The weight of a row: the exponential of its gate. -/
def weight (xr : Fin 512 → EReal) (w1 : Fin 512 → Fin 512 → EReal) (b1 w2 : Fin 512 → EReal) : EReal :=
  Ideal.exp (gate xr w1 b1 w2)

end Cert.RowMath

end
-- ==== Proof.KSums.lean ====
/- What one block adds to the scratch over the extended reals: at segment `g`, the sum over the block's rows of segment `g` of the
   row times its weight (the numerators) and of the weight (the denominators), by the window and by the whole scratch alike. -/
module

public import proofs.«01_k».proof.Proof.KWords
public import proofs.«01_k».proof.Proof.KChk
public import proofs.«01_k».proof.Proof.RowMath
public import Idealize.ShloMosaic.Lib.Pointwise
public import Idealize.ShloMosaic.Lib.VecWindow

@[expose] public section

set_option maxRecDepth 16384

noncomputable section

namespace Cert.KernelIdeal

open Idealize.ShloMosaic Idealize.ShloMosaic.TcCoe Idealize.SL.Sem Cert.KernelIdeal.Gen Cert.RowMath

/-- An entry of a one-hot matrix: 1 where the two words agree, 0 elsewhere. -/
theorem oneHot_entry (a b : BitVec 32) :
    (FloatOps.sitofp (F := Ideal) FTy.f32 (BitVec.setWidth 32 (IntOp.cmpi CmpIPredicate.eq a b)) : EReal) = if a = b then 1 else 0 := by
  show (((BitVec.setWidth 32 (IntOp.cmpi CmpIPredicate.eq a b)).toInt : ℝ) : EReal) = _
  by_cases h : a = b
  · rw [if_pos h, StableHlo.Predicate.cmpi_eq_iff.2 h]; simp
  · have : IntOp.cmpi CmpIPredicate.eq a b = 0#1 := by
      rcases BitVec.eq_zero_or_eq_one (IntOp.cmpi CmpIPredicate.eq a b) with e | e
      · exact e
      · exact absurd (StableHlo.Predicate.cmpi_eq_iff.1 e) h
    rw [if_neg h, this]; simp

/-- A word equals the word of a small number exactly when it is that number. -/
theorem eq_ofNat_iff (a : BitVec 32) (n : ℕ) (hn : n < 2 ^ 32) : a = BitVec.ofNat 32 n ↔ a.toNat = n := by
  constructor
  · rintro rfl; rw [BitVec.toNat_ofNat]; omega
  · intro h; apply BitVec.eq_of_toNat_eq; rw [BitVec.toNat_ofNat, h]; omega

section Mask
variable (b : Vec Ideal S4000x1 .i32)

/-- The mask of the window: row `r` against segment `w0 + z`. -/
theorem maskNarrow_apply (p : Vec Ideal S1x1 .i32) (hp : (p (ix2 0 0)).toNat < 512) (r : Fin 4000) (z : Fin 128) :
    k0_pay1 (F := Ideal) b p (ix2 r z) = if (b (ix2 r 0)).toNat = startRow (p (ix2 0 0)).toNat + z.val then (1 : EReal) else 0 := by
  have h384 := startRow_le_384 (p (ix2 0 0)).toNat
  have e : k0_pay1 (F := Ideal) b p (ix2 r z)
      = FloatOps.sitofp (F := Ideal) FTy.f32 (BitVec.setWidth 32 (IntOp.cmpi CmpIPredicate.eq (b (ix2 r 0))
          (IntOp.addi (BitVec.ofNat 32 z.val) (startWord (p (ix2 0 0)))))) := by
    pointwise [k0_pay1]
  rw [e, oneHot_entry, startWord_eq _ hp]
  have e2 : IntOp.addi (BitVec.ofNat 32 z.val) (BitVec.ofNat 32 (startRow (p (ix2 0 0)).toNat))
      = BitVec.ofNat 32 (startRow (p (ix2 0 0)).toNat + z.val) := by
    rw [Nat.add_comm]; exact (BitVec.ofNat_add ..).symm
  rw [e2]
  exact if_congr (eq_ofNat_iff _ _ (by omega)) rfl rfl

/-- The mask of the whole scratch: row `r` against segment `z`. -/
theorem maskWide_apply (r : Fin 4000) (z : Fin 512) :
    k0_pay6 (F := Ideal) b (ix2 r z) = if (b (ix2 r 0)).toNat = z.val then (1 : EReal) else 0 := by
  have e : k0_pay6 (F := Ideal) b (ix2 r z)
      = FloatOps.sitofp (F := Ideal) FTy.f32 (BitVec.setWidth 32 (IntOp.cmpi CmpIPredicate.eq (b (ix2 r 0)) (BitVec.ofNat 32 z.val))) := by
    pointwise [k0_pay6]
  rw [e, oneHot_entry]
  exact if_congr (eq_ofNat_iff _ _ (by omega)) rfl rfl

end Mask

/-- A masked product is the value where the mask is set and 0 elsewhere. -/
theorem mask_mul (p : Prop) [Decidable p] (y : EReal) : (if p then (1 : EReal) else 0) * y = if p then y else 0 := by
  split <;> simp

/-- The window of 128 rows at row `w0`, read at an index. -/
theorem window_apply {n : ℕ} (s : (⟨2, ![512, n]⟩ : Shape).Idx → EReal) (off : Fin 2 → ℕ) (w0 : ℕ) (hoff : off = ![w0, 0])
    (inb : ∀ a, off a + (![128, n] : Fin 2 → ℕ) a ≤ (![512, n] : Fin 2 → ℕ) a) (r : Fin 128) (z : Fin n) (hw : w0 + r.val < 512) :
    VecWindow.window (s := ⟨2, ![512, n]⟩) s off ![128, n] inb (ix2 r z) = s (ix2 ⟨w0 + r.val, hw⟩ z) := by
  subst hoff
  refine congrArg s (funext fun a => Fin.ext ?_)
  fin_cases a
  · show w0 + 1 * r.val = w0 + r.val
    omega
  · show 0 + 1 * z.val = z.val
    omega

/-- 128 rows put at row `w0`, read at an index: the rows put inside, what was there outside. -/
theorem put_apply {n : ℕ} (s : (⟨2, ![512, n]⟩ : Shape).Idx → EReal) (off : Fin 2 → ℕ) (w0 : ℕ) (hoff : off = ![w0, 0])
    (p : (⟨2, ![128, n]⟩ : Shape).Idx → EReal) (g : Fin 512) (z : Fin n) :
    VecWindow.put (s := ⟨2, ![512, n]⟩) s off ![128, n] p (ix2 g z)
      = if h : w0 ≤ g.val ∧ g.val < w0 + 128 then p (ix2 (⟨g.val - w0, by omega⟩ : Fin 128) z) else s (ix2 g z) := by
  subst hoff
  unfold VecWindow.put
  have hz := z.isLt
  by_cases h : w0 ≤ g.val ∧ g.val < w0 + 128
  · rw [dif_pos h, dif_pos (by intro a; fin_cases a; exacts [h, ⟨Nat.zero_le _, by show z.val < 0 + n; omega⟩])]
    refine congrArg p (funext fun a => Fin.ext ?_)
    fin_cases a <;> rfl
  · rw [dif_neg h, dif_neg (fun hh => h (hh 0))]

section Halves
variable (w1 : Vec Ideal S512x512 .bf16) (b1 w2 : Vec Ideal S1x512 .f32)

/-- The weight of row `r` of a block of rows. -/
abbrev rowWeight {n : ℕ} (x : (⟨2, ![n, 512]⟩ : Shape).Idx → EReal) (r : Fin n) : EReal :=
  weight (fun k => x (ix2 r k)) (fun k l => w1 (ix2 k l)) (fun l => b1 (ix2 0 l)) (fun l => w2 (ix2 0 l))

theorem weightLo_apply (x : Vec Ideal S2000x512 .f32) (r : Fin 2000) (z : Fin 1) :
    k0_pay18 (F := Ideal) w1 b1 w2 x (ix2 r z) = rowWeight w1 b1 w2 x r := by
  obtain rfl : z = 0 := Subsingleton.elim _ _
  pointwise [k0_pay18, k0_pay17, k0_pay14, k0_pay15, k0_pay16]
  rfl

theorem weightHi_apply (x : Vec Ideal S2000x512 .f32) (r : Fin 2000) (z : Fin 1) :
    k0_pay21 (F := Ideal) w1 b1 w2 x (ix2 r z) = rowWeight w1 b1 w2 x r := by
  obtain rfl : z = 0 := Subsingleton.elim _ _
  pointwise [k0_pay21, k0_pay20, k0_pay14, k0_pay15, k0_pay16]
  rfl

theorem termLo_apply (x : Vec Ideal S2000x512 .f32) (r : Fin 2000) (z : Fin 512) :
    k0_pay19 (F := Ideal) w1 b1 w2 x (ix2 r z) = x (ix2 r z) * rowWeight w1 b1 w2 x r := by
  rw [← weightLo_apply w1 b1 w2 x r 0]
  pointwise [k0_pay19, k0_pay17]

theorem termHi_apply (x : Vec Ideal S2000x512 .f32) (r : Fin 2000) (z : Fin 512) :
    k0_pay22 (F := Ideal) w1 b1 w2 x (ix2 r z) = x (ix2 r z) * rowWeight w1 b1 w2 x r := by
  rw [← weightHi_apply w1 b1 w2 x r 0]
  pointwise [k0_pay22, k0_pay20]

theorem xLo_apply (x : Vec Ideal S4000x512 .f32) (r : Fin 2000) (k : Fin 512) :
    xLo x (ix2 r k) = x (ix2 (⟨r.val, by omega⟩ : Fin 4000) k) := by
  refine congrArg x (funext fun a => Fin.ext ?_)
  fin_cases a
  · show 0 + 1 * r.val = r.val
    omega
  · show 0 + 1 * k.val = k.val
    omega

theorem xHi_apply (x : Vec Ideal S4000x512 .f32) (r : Fin 2000) (k : Fin 512) :
    xHi x (ix2 r k) = x (ix2 (⟨2000 + r.val, by omega⟩ : Fin 4000) k) := by
  refine congrArg x (funext fun a => Fin.ext ?_)
  fin_cases a
  · show 2000 + 1 * r.val = 2000 + r.val
    omega
  · show 0 + 1 * k.val = k.val
    omega

/-- A row's weight is the same in its half. -/
theorem rowWeight_xLo (x : Vec Ideal S4000x512 .f32) (r : Fin 2000) :
    rowWeight w1 b1 w2 (xLo x) r = rowWeight w1 b1 w2 x (⟨r.val, by omega⟩ : Fin 4000) :=
  congrArg (weight · _ _ _) (funext fun k => xLo_apply x r k)

theorem rowWeight_xHi (x : Vec Ideal S4000x512 .f32) (r : Fin 2000) :
    rowWeight w1 b1 w2 (xHi x) r = rowWeight w1 b1 w2 x (⟨2000 + r.val, by omega⟩ : Fin 4000) :=
  congrArg (weight · _ _ _) (funext fun k => xHi_apply x r k)

end Halves

/-- The word loaded first is the block's row 0. -/
theorem loWord_apply (b : Vec Ideal S4000x1 .i32) : loWord (F := Ideal) b (ix2 0 0) = b (ix2 0 0) := by
  refine congrArg b (funext fun a => Fin.ext ?_)
  fin_cases a <;> rfl

/-- A sum over the block's rows, half by half. -/
theorem sum_halves (f : Fin 4000 → EReal) :
    (∑ r : Fin 2000, f ⟨r.val, by omega⟩) + (∑ r : Fin 2000, f ⟨2000 + r.val, by omega⟩) = ∑ r, f r :=
  (Fin.sum_univ_add (a := 2000) (b := 2000) f).symm

section Block
variable (b : Vec Ideal S4000x1 .i32) (x : Vec Ideal S4000x512 .f32) (w1 : Vec Ideal S512x512 .bf16) (b1 w2 : Vec Ideal S1x512 .f32)

/-- What a block adds to the numerators at segment number `g` and column `z`. -/
abbrev blockS (g : ℕ) (z : Fin 512) : EReal :=
  ∑ r : Fin 4000, if (b (ix2 r 0)).toNat = g then x (ix2 r z) * rowWeight w1 b1 w2 x r else 0

/-- What a block adds to the denominators at segment number `g`. -/
abbrev blockD (g : ℕ) : EReal :=
  ∑ r : Fin 4000, if (b (ix2 r 0)).toNat = g then rowWeight w1 b1 w2 x r else 0

/-- The window's numerators: the block's sums at the window's segments added. -/
theorem narrowS_apply (p : Vec Ideal S1x1 .i32) (hp : (p (ix2 0 0)).toNat < 512) (s : Vec Ideal S128x512 .f32) (r : Fin 128) (z : Fin 512) :
    k0_pay4 (F := Ideal) (k0_pay19 w1 b1 w2 (xLo x)) (k0_pay22 w1 b1 w2 (xHi x)) (k0_pay23 b) p s (ix2 r z)
      = s (ix2 r z) + blockS b x w1 b1 w2 (startRow (p (ix2 0 0)).toNat + r.val) z := by
  have e23 : k0_pay23 b = b := by unfold k0_pay23; exact shapeCast_self _ _
  rw [e23]
  pointwise [k0_pay4, k0_pay3, k0_pay2]
  simp only [maskNarrow_apply b p hp, termLo_apply, termHi_apply, xLo_apply, xHi_apply, rowWeight_xLo, rowWeight_xHi, mask_mul]
  exact congrArg (s (ix2 r z) + ·) (sum_halves fun r' => if (b (ix2 r' 0)).toNat = startRow (p (ix2 0 0)).toNat + r.val then
    x (ix2 r' z) * rowWeight w1 b1 w2 x r' else 0)

/-- The window's denominators. -/
theorem narrowD_apply (p : Vec Ideal S1x1 .i32) (hp : (p (ix2 0 0)).toNat < 512) (d : Vec Ideal S128x1 .f32) (r : Fin 128) (z : Fin 1) :
    k0_pay5 (F := Ideal) (k0_pay18 w1 b1 w2 (xLo x)) (k0_pay21 w1 b1 w2 (xHi x)) (k0_pay23 b) p d (ix2 r z)
      = d (ix2 r z) + blockD b x w1 b1 w2 (startRow (p (ix2 0 0)).toNat + r.val) := by
  have e23 : k0_pay23 b = b := by unfold k0_pay23; exact shapeCast_self _ _
  rw [e23]
  pointwise [k0_pay5, k0_pay3, k0_pay2]
  simp only [maskNarrow_apply b p hp, weightLo_apply, weightHi_apply, xLo_apply, xHi_apply, rowWeight_xLo, rowWeight_xHi, mask_mul]
  exact congrArg (d (ix2 r z) + ·) (sum_halves fun r' => if (b (ix2 r' 0)).toNat = startRow (p (ix2 0 0)).toNat + r.val then
    rowWeight w1 b1 w2 x r' else 0)

/-- The whole scratch's numerators. -/
theorem wideS_apply (s : Vec Ideal S512x512 .f32) (g z : Fin 512) :
    k0_pay9 (F := Ideal) (k0_pay19 w1 b1 w2 (xLo x)) (k0_pay22 w1 b1 w2 (xHi x)) (k0_pay23 b) s (ix2 g z)
      = s (ix2 g z) + blockS b x w1 b1 w2 g.val z := by
  have e23 : k0_pay23 b = b := by unfold k0_pay23; exact shapeCast_self _ _
  rw [e23]
  pointwise [k0_pay9, k0_pay7, k0_pay8]
  simp only [maskWide_apply, termLo_apply, termHi_apply, xLo_apply, xHi_apply, rowWeight_xLo, rowWeight_xHi, mask_mul]
  exact congrArg (s (ix2 g z) + ·) (sum_halves fun r' => if (b (ix2 r' 0)).toNat = g.val then
    x (ix2 r' z) * rowWeight w1 b1 w2 x r' else 0)

/-- The whole scratch's denominators. -/
theorem wideD_apply (d : Vec Ideal S512x1 .f32) (g : Fin 512) (z : Fin 1) :
    k0_pay10 (F := Ideal) (k0_pay18 w1 b1 w2 (xLo x)) (k0_pay21 w1 b1 w2 (xHi x)) (k0_pay23 b) d (ix2 g z)
      = d (ix2 g z) + blockD b x w1 b1 w2 g.val := by
  have e23 : k0_pay23 b = b := by unfold k0_pay23; exact shapeCast_self _ _
  rw [e23]
  pointwise [k0_pay10, k0_pay7, k0_pay8]
  simp only [maskWide_apply, weightLo_apply, weightHi_apply, xLo_apply, xHi_apply, rowWeight_xLo, rowWeight_xHi, mask_mul]
  exact congrArg (d (ix2 g z) + ·) (sum_halves fun r' => if (b (ix2 r' 0)).toNat = g.val then rowWeight w1 b1 w2 x r' else 0)

/-- The segment numbers of a block: below 512 and between the first and the last row's. -/
structure BlockSorted : Prop where
  lt : ∀ r : Fin 4000, (b (ix2 r 0)).toNat < 512
  ge : ∀ r : Fin 4000, (b (ix2 0 0)).toNat ≤ (b (ix2 r 0)).toNat
  le : ∀ r : Fin 4000, (b (ix2 r 0)).toNat ≤ (b (ix2 3999 0)).toNat

variable (hb : BlockSorted b)
include hb

/-- A sum over the rows of a segment outside the window is empty when the block's segments fit it. -/
theorem blockSum_outside (hn : (b (ix2 3999 0)).toNat < startRow (b (ix2 0 0)).toNat + 128) (g : ℕ)
    (hg : ¬ (startRow (b (ix2 0 0)).toNat ≤ g ∧ g < startRow (b (ix2 0 0)).toNat + 128)) (f : Fin 4000 → EReal) :
    (∑ r : Fin 4000, if (b (ix2 r 0)).toNat = g then f r else 0) = 0 := by
  refine Finset.sum_eq_zero fun r _ => if_neg fun e => hg ?_
  have := hb.ge r; have := hb.le r; have := startRow_le (b (ix2 0 0)).toNat
  omega

/-- The numerators after a block: its sums added, whichever way it takes. -/
theorem accS_apply (s : Vec Ideal S512x512 .f32) (g z : Fin 512) :
    accS (F := Ideal) b x w1 b1 w2 s (ix2 g z) = s (ix2 g z) + blockS b x w1 b1 w2 g.val z := by
  have hlo : (lo (F := Ideal) b).toNat < 512 := by rw [lo_eq]; exact hb.lt 0
  have hhi : (hi (F := Ideal) b).toNat < 512 := by rw [hi_eq]; exact hb.lt 3999
  by_cases hn : k0_cond2 (lo (F := Ideal) b) (hi (F := Ideal) b) = 1#1
  · have hn' := (cond2_iff _ _ hlo hhi).1 hn
    have hlw := loWord_apply b
    rw [lo_eq, hi_eq] at hn'
    have hoff : k0_off1 (lo (F := Ideal) b) = ![startRow (b (ix2 0 0)).toNat, 0] := by rw [off1_eq _ hlo, lo_eq]
    rw [accS_narrow b x w1 b1 w2 s hn (chk_of_lt _ _ hlo)]
    refine (put_apply s _ _ hoff _ g z).trans ?_
    split
    · rename_i h
      rw [narrowS_apply b x w1 b1 w2 (loWord b) (by rw [hlw]; exact hb.lt 0)]
      refine congrArg₂ (· + ·) ((window_apply s _ _ hoff _ _ z (by show _ + (g.val - _) < 512; omega)).trans ?_) ?_
      · exact congrArg s (congrArg (ix2 · z) (Fin.ext (by show _ + (g.val - _) = g.val; omega)))
      · rw [hlw]
        exact congrArg (fun n => blockS b x w1 b1 w2 n z) (by show _ + (g.val - _) = g.val; omega)
    · rename_i h
      show _ = _ + ∑ r : Fin 4000, _
      rw [blockSum_outside b hb hn' g.val h, add_zero]
  · rw [accS_wide b x w1 b1 w2 s hn, wideS_apply]

/-- The denominators after a block. -/
theorem accD_apply (d : Vec Ideal S512x1 .f32) (g : Fin 512) (z : Fin 1) :
    accD (F := Ideal) b x w1 b1 w2 d (ix2 g z) = d (ix2 g z) + blockD b x w1 b1 w2 g.val := by
  have hlo : (lo (F := Ideal) b).toNat < 512 := by rw [lo_eq]; exact hb.lt 0
  have hhi : (hi (F := Ideal) b).toNat < 512 := by rw [hi_eq]; exact hb.lt 3999
  by_cases hn : k0_cond2 (lo (F := Ideal) b) (hi (F := Ideal) b) = 1#1
  · have hn' := (cond2_iff _ _ hlo hhi).1 hn
    have hlw := loWord_apply b
    rw [lo_eq, hi_eq] at hn'
    have hoff : k0_off2 (lo (F := Ideal) b) = ![startRow (b (ix2 0 0)).toNat, 0] := by rw [off2_eq _ hlo, lo_eq]
    rw [accD_narrow b x w1 b1 w2 d hn (chk_of_lt _ _ hlo)]
    refine (put_apply d _ _ hoff _ g z).trans ?_
    split
    · rename_i h
      rw [narrowD_apply b x w1 b1 w2 (loWord b) (by rw [hlw]; exact hb.lt 0)]
      refine congrArg₂ (· + ·) ((window_apply d _ _ hoff _ _ z (by show _ + (g.val - _) < 512; omega)).trans ?_) ?_
      · exact congrArg d (congrArg (ix2 · z) (Fin.ext (by show _ + (g.val - _) = g.val; omega)))
      · rw [hlw]
        exact congrArg (blockD b x w1 b1 w2) (by show _ + (g.val - _) = g.val; omega)
    · rename_i h
      show _ = _ + ∑ r : Fin 4000, _
      rw [blockSum_outside b hb hn' g.val h, add_zero]
  · rw [accD_wide b x w1 b1 w2 d hn, wideD_apply]

end Block

end Cert.KernelIdeal

end
-- ==== Proof.PartialSums.lean ====
/- A sum over the rows taken block by block: 25 blocks of 4000 rows. -/
module

public import proofs.«01_k».proof.Proof.KBlocks

@[expose] public section

noncomputable section

namespace Cert.KernelIdeal

open Idealize.ShloMosaic Cert.KernelIdeal.Gen

/-- A term of a sum over the rows, at a natural number: zero beyond the last row. -/
def termAt (f : Fin 100000 → EReal) (n : ℕ) : EReal := if h : n < 100000 then f ⟨n, h⟩ else 0

/-- The sum over the rows of the first `t` blocks. -/
def upTo (f : Fin 100000 → EReal) (t : ℕ) : EReal := ∑ n ∈ Finset.range (4000 * t), termAt f n

theorem upTo_zero (f : Fin 100000 → EReal) : upTo f 0 = 0 := by simp [upTo]

/-- One more block adds its rows. -/
theorem upTo_succ (f : Fin 100000 → EReal) (t : Fin cfg0.N) : upTo f (t.val + 1) = upTo f t.val + ∑ r : Fin 4000, f (rowAt t r) := by
  unfold upTo
  rw [show 4000 * (t.val + 1) = 4000 * t.val + 4000 from Nat.mul_succ _ _, Finset.sum_range_add, Finset.sum_range (n := 4000)]
  have ht := Nat.lt_of_lt_of_eq t.isLt N_0
  refine congrArg _ (Finset.sum_congr rfl fun r _ => ?_)
  exact dif_pos (by omega)

/-- All the blocks together are all the rows. -/
theorem upTo_full (f : Fin 100000 → EReal) : upTo f 25 = ∑ n, f n := by
  unfold upTo
  rw [show 4000 * 25 = 100000 from rfl, Finset.sum_range (n := 100000)]
  exact Finset.sum_congr rfl fun n _ => dif_pos n.isLt

end Cert.KernelIdeal

end
-- ==== Proof.KFold.lean ====
/- The scratch buffers after the grid, over the extended reals: each segment's sum over all its rows. -/
module

public import proofs.«01_k».proof.Proof.KSums
public import proofs.«01_k».proof.Proof.PartialSums

@[expose] public section

set_option maxRecDepth 16384

noncomputable section

namespace Cert.KernelIdeal

open Idealize.ShloMosaic Idealize.ShloMosaic.TcCoe Idealize.SL.Sem Cert.KernelIdeal.Gen Cert.RowMath

variable (m : (ℓ : Loc nD τ sig) → Buf (Elt Ideal) ℓ) (c : Dev nD)

/-- The rows of the run on device `c`. -/
abbrev rows : FVec Ideal S100000x512 .f32 := (m ((c : Thread nD τ).loc main_arg0) : Vec Ideal S100000x512 .f32)
/-- The first weights. -/
abbrev wts1 : FVec Ideal S512x512 .f32 := (m ((c : Thread nD τ).loc main_arg3) : Vec Ideal S512x512 .f32)
/-- The first bias. -/
abbrev bias1 : FVec Ideal S512 .f32 := (m ((c : Thread nD τ).loc main_arg4) : Vec Ideal S512 .f32)
/-- The second weights. -/
abbrev wts2 : FVec Ideal S512x1 .f32 := (m ((c : Thread nD τ).loc main_arg5) : Vec Ideal S512x1 .f32)

/-- The weight of row `n` of the run. -/
def wt (n : Fin 100000) : EReal :=
  weight (fun k => rows m c (ix2 n k)) (fun k l => wts1 m c (ix2 k l)) (fun l => bias1 m c (ix1 l)) (fun l => wts2 m c (ix2 l 0))

/-- What row `n` gives to segment `g` of the numerators, column `z`. -/
def giveS (g : ℕ) (z : Fin 512) (n : Fin 100000) : EReal := if (segs m c (ix1 n)).toNat = g then rows m c (ix2 n z) * wt m c n else 0

/-- What row `n` gives to segment `g` of the denominators. -/
def giveD (g : ℕ) (n : Fin 100000) : EReal := if (segs m c (ix1 n)).toNat = g then wt m c n else 0

/-- The weight of a row of a block is that row's weight. -/
theorem rowWeight_blk (t : Fin cfg0.N) (r : Fin 4000) :
    rowWeight (iblk m c 2 t) (iblk m c 3 t) (iblk m c 4 t) (iblk m c 1 t) r = wt m c (rowAt t r) := by
  unfold rowWeight wt
  have e1 : (fun k => (iblk m c 1 t : Vec Ideal S4000x512 .f32) (ix2 r k)) = fun k => rows m c (ix2 (rowAt t r) k) :=
    funext fun k => blk_x m c t r k
  have e2 : (fun k l => (iblk m c 2 t : Vec Ideal S512x512 .bf16) (ix2 k l)) = fun k l => wts1 m c (ix2 k l) :=
    funext fun k => funext fun l => blk_w1 m c t k l
  have e3 : (fun l => (iblk m c 3 t : Vec Ideal S1x512 .f32) (ix2 0 l)) = fun l => bias1 m c (ix1 l) :=
    funext fun l => blk_b1 m c t 0 l
  have e4 : (fun l => (iblk m c 4 t : Vec Ideal S1x512 .f32) (ix2 0 l)) = fun l => wts2 m c (ix2 l 0) :=
    funext fun l => blk_w2 m c t 0 l
  rw [← e1, ← e2, ← e3, ← e4]

/-- A block of sorted segment numbers is sorted. -/
theorem blockSorted (h : Batch.Sorted (segs m c)) (t : Fin cfg0.N) : BlockSorted (iblk m c 0 t : Vec Ideal S4000x1 .i32) where
  lt r := by rw [blk_batch m c t r 0]; exact h.lt _
  ge r := by
    rw [blk_batch m c t r 0, blk_batch m c t 0 0]
    refine h.mono _ _ ?_
    show 4000 * t.val + 0 ≤ 4000 * t.val + r.val
    omega
  le r := by
    rw [blk_batch m c t r 0, blk_batch m c t 3999 0]
    refine h.mono _ _ ?_
    show 4000 * t.val + r.val ≤ 4000 * t.val + 3999
    omega

/-- A block's numerators are its rows' gifts. -/
theorem blockS_blk (t : Fin cfg0.N) (g : ℕ) (z : Fin 512) :
    blockS (iblk m c 0 t) (iblk m c 1 t) (iblk m c 2 t) (iblk m c 3 t) (iblk m c 4 t) g z = ∑ r : Fin 4000, giveS m c g z (rowAt t r) := by
  unfold blockS giveS
  refine Finset.sum_congr rfl fun r _ => ?_
  rw [rowWeight_blk, blk_batch m c t r 0, blk_x m c t r z]

/-- A block's denominators are its rows' gifts. -/
theorem blockD_blk (t : Fin cfg0.N) (g : ℕ) :
    blockD (iblk m c 0 t) (iblk m c 1 t) (iblk m c 2 t) (iblk m c 3 t) (iblk m c 4 t) g = ∑ r : Fin 4000, giveD m c g (rowAt t r) := by
  unfold blockD giveD
  refine Finset.sum_congr rfl fun r _ => ?_
  rw [rowWeight_blk, blk_batch m c t r 0]

/-- The zeros the first point stores. -/
theorem zeroS (g z : Fin 512) : k0_pay12 (F := Ideal) (ix2 g z) = 0 := by
  show Ideal.ofBits FTy.f32 0x00000000#32 = 0
  exact Ideal.ofBits_zero_f32
theorem zeroD (g : Fin 512) (z : Fin 1) : k0_pay13 (F := Ideal) (ix2 g z) = 0 := by
  show Ideal.ofBits FTy.f32 0x00000000#32 = 0
  exact Ideal.ofBits_zero_f32

/-- The numerators after point `t`: the sums over the rows so far. -/
theorem scrS_upTo (h : Batch.Sorted (segs m c)) (g z : Fin 512) : ∀ n : ℕ, ∀ hn : n < cfg0.N,
    scrS m c (n + 1) (ix2 g z) = upTo (giveS m c g.val z) (n + 1) := by
  intro n
  induction n with
  | zero =>
    intro hn
    rw [scrS_succ m c ⟨0, hn⟩, nextS, startS, if_pos (coord_val ⟨0, hn⟩), accS_apply _ _ _ _ _ (blockSorted m c h ⟨0, hn⟩), blockS_blk,
      zeroS, upTo_succ _ ⟨0, hn⟩, upTo_zero]
  | succ n ih =>
    intro hn
    rw [scrS_succ m c ⟨n + 1, hn⟩, nextS, startS, if_neg (by rw [coord_val ⟨n + 1, hn⟩]; exact Nat.succ_ne_zero n),
      accS_apply _ _ _ _ _ (blockSorted m c h ⟨n + 1, hn⟩), blockS_blk, upTo_succ _ ⟨n + 1, hn⟩]
    exact congrArg (· + _) (ih (by omega))

/-- The denominators after point `t`. -/
theorem scrD_upTo (h : Batch.Sorted (segs m c)) (g : Fin 512) (z : Fin 1) : ∀ n : ℕ, ∀ hn : n < cfg0.N,
    scrD m c (n + 1) (ix2 g z) = upTo (giveD m c g.val) (n + 1) := by
  intro n
  induction n with
  | zero =>
    intro hn
    rw [scrD_succ m c ⟨0, hn⟩, nextD, startD, if_pos (coord_val ⟨0, hn⟩), accD_apply _ _ _ _ _ (blockSorted m c h ⟨0, hn⟩), blockD_blk,
      zeroD, upTo_succ _ ⟨0, hn⟩, upTo_zero]
  | succ n ih =>
    intro hn
    rw [scrD_succ m c ⟨n + 1, hn⟩, nextD, startD, if_neg (by rw [coord_val ⟨n + 1, hn⟩]; exact Nat.succ_ne_zero n),
      accD_apply _ _ _ _ _ (blockSorted m c h ⟨n + 1, hn⟩), blockD_blk, upTo_succ _ ⟨n + 1, hn⟩]
    exact congrArg (· + _) (ih (by omega))

/-- The numerators after the grid. -/
theorem scrS_full (h : Batch.Sorted (segs m c)) (g z : Fin 512) : scrS m c 25 (ix2 g z) = ∑ n, giveS m c g.val z n := by
  rw [← upTo_full]; exact scrS_upTo m c h g z 24 (Nat.lt_of_lt_of_eq (by decide : 24 < 25) N_0.symm)

/-- The denominators after the grid. -/
theorem scrD_full (h : Batch.Sorted (segs m c)) (g : Fin 512) (z : Fin 1) : scrD m c 25 (ix2 g z) = ∑ n, giveD m c g.val n := by
  rw [← upTo_full]; exact scrD_upTo m c h g z 24 (Nat.lt_of_lt_of_eq (by decide : 24 < 25) N_0.symm)

end Cert.KernelIdeal

end
-- ==== Proof.KOut.lean ====
/- The kernel's result over the extended reals: at segment `g`, the segment's sum of weighted rows over its sum of weights and the guard. -/
module

public import proofs.«01_k».proof.Proof.KFold

@[expose] public section

set_option maxRecDepth 16384

noncomputable section

namespace Cert.KernelIdeal

open Idealize.ShloMosaic Idealize.ShloMosaic.TcCoe Idealize.SL.Sem Cert.KernelIdeal.Gen Cert.RowMath

/-- The quotient the last point stores, at an entry. -/
theorem quotient_apply (s : Vec Ideal S512x512 .f32) (d : Vec Ideal S512x1 .f32) (g z : Fin 512) :
    k0_pay11 (F := Ideal) s d (ix2 g z) = Ideal.div (s (ix2 g z)) (d (ix2 g 0) + guard) := by
  pointwise [k0_pay11]
  rfl

variable (m : (ℓ : Loc nD τ sig) → Buf (Elt Ideal) ℓ) (c : Dev nD)

/-- The pooled rows: the sum of a segment's weighted rows over the sum of its weights and the guard. -/
def pooled : FVec Ideal S512x512 .f32 := fun i =>
  Ideal.div (∑ n, giveS m c (i 0).val (i 1) n) ((∑ n, giveD m c (i 0).val n) + guard)

/-- The last point of the grid. -/
def lastPt : Fin cfg0.N := ⟨24, Nat.lt_of_lt_of_eq (by decide : 24 < 25) N_0.symm⟩

/-- The result's buffer after the last point holds the pooled rows. -/
theorem after_last (h : Batch.Sorted (segs m c)) : (dats m 0 c).after 5 lastPt = pooled m c := by
  rw [after_5]
  refine funext fun (i : S512x512.Idx) => ?_
  obtain ⟨g, z, rfl⟩ : ∃ g z : Fin 512, i = ix2 g z := ⟨i 0, i 1, by funext a; fin_cases a <;> rfl⟩
  show k0_pay11 (F := Ideal) (scrS m c 25) (scrD m c 25) (ix2 g z) = pooled m c (ix2 g z)
  rw [quotient_apply, scrS_full m c h, scrD_full m c h]
  rfl

/-- The result array after the run holds the pooled rows. -/
theorem result_array (h : Batch.Sorted (segs m c)) : (dats m 0 c).arrAt 5 cfg0.N = pooled m c := by
  refine (dats m 0 c).arrAt_eq_of_after_last 5 lastPt (by decide +kernel) _ fun j => ?_
  blk_simp
  rw [after_last m c h]

/-- @main ends with the pooled rows in its result and its arguments unchanged. -/
theorem value_run (ρ : Dev nD → PrngReg) (h : ∀ c, Batch.Sorted (segs m c)) :
    θ_run defs (onTc (τ := τ) (main (F := Ideal))) ⟨m, fun _ => 0, ρ⟩ (fun r => ∀ c : Dev nD,
      r.2.mem ((c.tc : Thread nD τ).loc main_v4) = pooled m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have hchk := chk_of_sorted m h
  have both := θ_run_and (run_arrays m ρ hchk) (frame_run m ρ hchk)
  exact (θ_run defs _ _).mono (fun _ p c => ⟨((p.1 c).1 5).trans (result_array m c (h c)), p.2.1 c⟩) both

end Cert.KernelIdeal

end
-- ==== Proof.RScatter.lean ====
/- The reference's segment sums and its take, read at an index: a segment sum is the sum of the rows whose segment number is the
   segment, and the take reads the segment's entry. -/
module

public import proofs.«01_k».proof.Proof.Gen.ReferenceIdeal.Read
public import Idealize.ShloMosaic.Lib.Routing.OpsPair
public import Idealize.ShloMosaic.Lib.StableHlo.Predicate
public import Idealize.ShloMosaic.Lib.Pointwise

@[expose] public section

set_option maxRecDepth 16384

noncomputable section

namespace Cert.ReferenceIdeal

open Idealize.ShloMosaic Idealize.SL.Sem Cert.ReferenceIdeal.Gen

/-- A word below 512 read signed is a segment number exactly when its natural number is. -/
theorem toInt_eq_iff (w : BitVec 32) (h : w.toNat < 512) (g : ℕ) : w.toInt = (g : ℤ) ↔ w.toNat = g := by
  rw [StableHlo.Predicate.toInt_eq_toNat_of_lt (by omega)]; omega

/-- Entry `n` of the denominators' updates goes to the segment it names. -/
theorem lands_vec (idx : IVec S100000x1 32) (n : Fin 100000) (g : Fin 512) :
    scatter_S512_S100000x1_S100000_n_0_0_1.resultIdx? (ix1 n) idx = some (ix1 g) ↔ (idx (ix2 n 0)).toInt = (g.val : ℤ) := by
  have hx := Routing.resultIdx?_ix1 scatter_S512_S100000x1_S100000_n_0_0_1 (ix1 n) idx g
  have hw : scatter_S512_S100000x1_S100000_n_0_0_1.window (ix1 n) 0 = 0 := rfl
  have hs : scatter_S512_S100000x1_S100000_n_0_0_1.start (ix1 n) idx 0 = (idx (ix2 n 0)).toInt := by
    unfold ScatterDims.start
    rw [dif_pos (by decide)]
    refine congrArg (fun i => (idx i).toInt) (funext fun a => Fin.ext ?_)
    fin_cases a <;> rfl
  rw [hw, hs] at hx; exact hx.trans (by simp)

/-- Entry `(n, z)` of the numerators' updates goes to the row of the segment `n` names, same column. -/
theorem lands_row (idx : IVec S100000x1 32) (n : Fin 100000) (z : Fin 512) (g c : Fin 512) :
    scatter_S512x512_S100000x1_S100000x512_1_0_0_1.resultIdx? (ix2 n z) idx = some (ix2 g c)
      ↔ (idx (ix2 n 0)).toInt = (g.val : ℤ) ∧ z = c := by
  have hx := Routing.resultIdx?_ix2 scatter_S512x512_S100000x1_S100000x512_1_0_0_1 (ix2 n z) idx g c
  have hw0 : scatter_S512x512_S100000x1_S100000x512_1_0_0_1.window (ix2 n z) 0 = 0 := rfl
  have hw1 : scatter_S512x512_S100000x1_S100000x512_1_0_0_1.window (ix2 n z) 1 = z.val := rfl
  have hs1 : scatter_S512x512_S100000x1_S100000x512_1_0_0_1.start (ix2 n z) idx 1 = 0 := rfl
  have hs : scatter_S512x512_S100000x1_S100000x512_1_0_0_1.start (ix2 n z) idx 0 = (idx (ix2 n 0)).toInt := by
    unfold ScatterDims.start
    rw [dif_pos (by decide)]
    refine congrArg (fun i => (idx i).toInt) (funext fun a => Fin.ext ?_)
    fin_cases a <;> rfl
  rw [hw0, hw1, hs, hs1] at hx; exact hx.trans (by rw [Fin.ext_iff]; simp)

/-- A sum over the positions of a vector. -/
theorem sum_ix1 {n : ℕ} (f : (⟨1, ![n]⟩ : Shape).Idx → EReal) : ∑ j, f j = ∑ i : Fin n, f (ix1 i) :=
  (Fintype.sum_equiv ⟨fun i : Fin n => (ix1 i : (⟨1, ![n]⟩ : Shape).Idx), fun j => j 0, fun _ => rfl,
    fun j => by funext a; obtain rfl : a = 0 := Subsingleton.elim _ _; rfl⟩ _ _ fun _ => rfl).symm

/-- A segment sum of scalars at segment `g`. -/
theorem segmentSum_vec (x : FVec Ideal S512 .f32) (idx : IVec S100000x1 32) (u : FVec Ideal S100000 .f32)
    (h : ∀ n : Fin 100000, (idx (ix2 n 0)).toNat < 512) (g : Fin 512) :
    Host.scatterAdd scatter_S512_S100000x1_S100000_n_0_0_1 x idx u (ix1 g)
      = x (ix1 g) + ∑ n : Fin 100000, if (idx (ix2 n 0)).toNat = g.val then u (ix1 n) else 0 := by
  show x (ix1 g) + ∑ j ∈ Finset.univ.filter (fun j => scatter_S512_S100000x1_S100000_n_0_0_1.resultIdx? j idx = some (ix1 g)), u j = _
  rw [Finset.sum_filter, sum_ix1]
  refine congrArg _ (Finset.sum_congr rfl fun n _ => if_congr ?_ rfl rfl)
  rw [lands_vec, toInt_eq_iff _ (h n)]

/-- A segment sum of rows at segment `g`, column `c`. -/
theorem segmentSum_row (x : FVec Ideal S512x512 .f32) (idx : IVec S100000x1 32) (u : FVec Ideal S100000x512 .f32)
    (h : ∀ n : Fin 100000, (idx (ix2 n 0)).toNat < 512) (g c : Fin 512) :
    Host.scatterAdd scatter_S512x512_S100000x1_S100000x512_1_0_0_1 x idx u (ix2 g c)
      = x (ix2 g c) + ∑ n : Fin 100000, if (idx (ix2 n 0)).toNat = g.val then u (ix2 n c) else 0 := by
  show x (ix2 g c) + ∑ j ∈ Finset.univ.filter (fun j => scatter_S512x512_S100000x1_S100000x512_1_0_0_1.resultIdx? j idx = some (ix2 g c)), u j = _
  rw [Finset.sum_filter, sum_idx2]
  refine congrArg _ (Finset.sum_congr rfl fun n _ => ?_)
  rw [Finset.sum_eq_single c]
  · refine if_congr ?_ rfl rfl
    rw [lands_row, toInt_eq_iff _ (h n)]; simp
  · intro z _ hz
    refine if_neg fun e => hz ?_
    exact ((lands_row _ _ _ _ _).1 e).2
  · intro hc; exact absurd (Finset.mem_univ _) hc

/-- The take at row `n` reads the entry of the segment it names. -/
theorem take_apply {α : Type} (x : S512.Idx → α) (idx : IVec S100000x1 32) (n : Fin 100000) (g : Fin 512) (h : (idx (ix2 n 0)).toNat = g.val) :
    Host.gather gather_S512_S100000x1_S100000_n_0_n_n_0_1_1 x idx (ix1 n) = x (ix1 g) := by
  have e := StableHlo.Predicate.gather_take gather_S512_S100000x1_S100000_n_0_n_n_0_1_1 rfl rfl rfl rfl x idx n (by decide)
  have e1 : (Shape.Idx.ofFin n : S100000.Idx) = ix1 n := by
    funext a; obtain rfl : a = 0 := Subsingleton.elim _ _; rfl
  have e2 : (StableHlo.Predicate.ixP n : S100000x1.Idx) = ix2 n 0 := by
    funext a; fin_cases a <;> rfl
  rw [e1] at e
  rw [e]
  refine congrArg x (funext fun a => Fin.ext ?_)
  obtain rfl : a = 0 := Subsingleton.elim _ _
  show min (idx (StableHlo.Predicate.ixP n)).toInt.toNat 511 = g.val
  rw [e2, StableHlo.Predicate.toInt_eq_toNat_of_lt (by omega)]
  omega

end Cert.ReferenceIdeal

end
-- ==== Proof.PoolMath.lean ====
/- The equation of the two programs over the extended reals: dividing a segment's sum of weighted rows by its sum of weights is the
   same as weighting each row by its share; and the rectifier is the larger of a number and its multiple by the slope. -/
module

public import proofs.«01_k».proof.Proof.RowMath

@[expose] public section

noncomputable section

namespace Cert.RowMath

open Idealize.ShloMosaic

/-- The slope as a real: 10737418 / 2 ^ 30. -/
theorem slope_eq : slope = (((10737418 : ℝ) * 2 ^ (-30 : ℤ) : ℝ) : EReal) := by
  unfold slope
  simp [Ideal.ofBits, Ideal.ieee, -EReal.coe_mul]

/-- The guard as a real: 15111573 / 2 ^ 77. -/
theorem guard_eq : guard = (((15111573 : ℝ) * 2 ^ (-77 : ℤ) : ℝ) : EReal) := by
  unfold guard
  simp [Ideal.ofBits, Ideal.ieee, -EReal.coe_mul]

/-- The slope is a real between 0 and 1. -/
theorem slope_real : ∃ r : ℝ, slope = (r : EReal) ∧ 0 ≤ r ∧ r ≤ 1 :=
  ⟨_, slope_eq, by norm_num, by norm_num⟩

/-- The guard is positive. -/
theorem guard_pos : 0 < guard := by
  rw [guard_eq]; exact EReal.coe_pos.2 (by norm_num)

/-- An exponential is not negative. -/
theorem exp_nonneg (x : EReal) : 0 ≤ Ideal.exp x := by
  induction x with
  | bot => exact le_refl _
  | top => exact le_top
  | coe r => exact EReal.coe_nonneg.2 (Real.exp_nonneg r)

/-- A weight is not negative. -/
theorem weight_nonneg (xr : Fin 512 → EReal) (w1 : Fin 512 → Fin 512 → EReal) (b1 w2 : Fin 512 → EReal) : 0 ≤ weight xr w1 b1 w2 :=
  exp_nonneg _

/-- Choosing a number where it is positive and its multiple by the slope elsewhere is taking the larger of the two. -/
theorem leaky (h : EReal) : (if 0 < h then h else slope * h) = max h (slope * h) := by
  obtain ⟨r, e, h0, h1⟩ := slope_real
  rw [e]
  have h0' : (0 : EReal) ≤ (r : EReal) := EReal.coe_nonneg.2 h0
  have h1' : (r : EReal) ≤ 1 := by exact_mod_cast h1
  split
  · rename_i hp
    refine (max_eq_left ?_).symm
    calc (r : EReal) * h ≤ 1 * h := mul_le_mul_of_nonneg_right h1' hp.le
      _ = h := one_mul h
  · rename_i hn
    refine (max_eq_right ?_).symm
    have hn' : 0 ≤ -h := EReal.neg_nonneg.2 (not_lt.1 hn)
    have := mul_le_mul_of_nonneg_right h1' hn'
    rw [one_mul, mul_neg] at this
    exact EReal.neg_le_neg_iff.1 this

/-- A factor that is a nonnegative real goes into a sum. -/
theorem sum_mul_real {ι : Type} (s : Finset ι) (f : ι → EReal) (q : EReal) (h0 : 0 ≤ q) (ht : q ≠ ⊤) : (∑ i ∈ s, f i) * q = ∑ i ∈ s, f i * q := by
  classical
  induction s using Finset.induction_on with
  | empty => simp
  | insert a s ha ih =>
    rw [Finset.sum_insert ha, Finset.sum_insert ha, ← ih]
    exact EReal.right_distrib_of_nonneg_of_ne_top h0 ht _ _

/-- A reciprocal is not infinite. -/
theorem inv_ne_top (d : EReal) : d⁻¹ ≠ ⊤ := by
  induction d with
  | bot => simp
  | top => simp
  | coe r => rw [← EReal.coe_inv]; exact EReal.coe_ne_top _

/-- The sum of the weighted rows of a segment over `d` is the sum of the rows each times its weight over `d`. -/
theorem pool_eq {N : ℕ} (p : Fin N → Prop) [DecidablePred p] (x e : Fin N → EReal) (d : EReal) (hd : 0 < d) :
    Ideal.div (∑ n, if p n then x n * e n else 0) d = ∑ n, if p n then Ideal.div (e n) d * x n else 0 := by
  have hne : d ≠ 0 := hd.ne'
  have hdiv : ∀ y, Ideal.div y d = y * d⁻¹ := fun y => by unfold Ideal.div; rw [if_neg hne]
  rw [hdiv, sum_mul_real _ _ _ (EReal.inv_nonneg_of_nonneg hd.le) (inv_ne_top d)]
  refine Finset.sum_congr rfl fun n _ => ?_
  split
  · rw [hdiv, mul_comm (x n), mul_assoc, mul_assoc, mul_comm (x n)]
  · rw [zero_mul]

end Cert.RowMath

end
-- ==== Proof.RValue.lean ====
/- The reference's result over the extended reals: at segment `g`, the sum over the segment's rows of the row times its share of the
   segment's weights. -/
module

public import proofs.«01_k».proof.Proof.RScatter
public import proofs.«01_k».proof.Proof.PoolMath

@[expose] public section

set_option maxRecDepth 16384

noncomputable section

namespace Cert.ReferenceIdeal

open Idealize.ShloMosaic Idealize.SL.Sem Cert.ReferenceIdeal.Gen Cert.ReferenceIdeal.Read Cert.RowMath

variable (x0 : FVec Ideal S100000x512 .f32) (x2 : IVec S100000 32) (x3 : FVec Ideal S512x512 .f32) (x4 : FVec Ideal S512 .f32)
  (x5 : FVec Ideal S512x1 .f32)

/-- The weight of row `n`. -/
def wt (n : Fin 100000) : EReal :=
  weight (fun k => x0 (ix2 n k)) (fun k l => x3 (ix2 k l)) (fun l => x4 (ix1 l)) (fun l => x5 (ix2 l 0))

/-- The sum of the weights of segment `g`. -/
def total (g : ℕ) : EReal := ∑ n : Fin 100000, if (x2 (ix1 n)).toNat = g then wt x0 x3 x4 x5 n else 0

/-- The hidden layer of row `n` at unit `l`. -/
theorem hidden_apply (n : Fin 100000) (l : Fin 512) :
    val_main_v3 (F := Ideal) x0 x3 x4 (ix2 n l) = hidden (fun k => x0 (ix2 n k)) (fun k l => x3 (ix2 k l)) (fun l => x4 (ix1 l)) l := by
  rw [val_main_v3_apply, val_main_v0_apply, val_main_v2_apply, val_main_v1_apply, Ideal.addf_def]
  unfold RowMath.hidden
  refine congrArg₂ (· + ·) (Finset.sum_congr rfl fun k _ => congrArg₂ (· * ·) (congrArg x0 ?_) (congrArg x3 ?_)) (congrArg x4 ?_)
  all_goals (funext a; apply Fin.ext; fin_cases a <;> rfl)

/-- The rectified hidden layer. -/
theorem rectified_apply (n : Fin 100000) (l : Fin 512) :
    val_main_v8 (F := Ideal) x0 x3 x4 (ix2 n l)
      = max (hidden (fun k => x0 (ix2 n k)) (fun k l => x3 (ix2 k l)) (fun l => x4 (ix1 l)) l)
          (slope * hidden (fun k => x0 (ix2 n k)) (fun k l => x3 (ix2 k l)) (fun l => x4 (ix1 l)) l) := by
  rw [← leaky, val_main_v8_apply, val_main_v5_apply, val_main_v7_apply, val_main_v4_apply, val_main_cst_apply, val_main_v6_apply,
    val_main_cst_0_apply, hidden_apply, Ideal.mulf_def, Ideal.ofBits_def, Ideal.ofBits_zero_f32, Ideal.ofBits_def]
  generalize hidden (fun k => x0 (ix2 n k)) (fun k l => x3 (ix2 k l)) (fun l => x4 (ix1 l)) l = h
  show Scalar.select (Ideal.cmp .ogt h 0) h (slope * h) = _
  by_cases hp : 0 < h <;> simp [Ideal.cmp, Scalar.select, hp]

/-- The weight of row `n` as the reference computes it. -/
theorem weight_apply (n : Fin 100000) : val_main_v11 (F := Ideal) x0 x3 x4 x5 (ix1 n) = wt x0 x3 x4 x5 n := by
  rw [val_main_v11_apply, val_main_v10_apply, val_main_v9_apply]
  show Ideal.exp _ = Ideal.exp _
  refine congrArg Ideal.exp (Finset.sum_congr rfl fun l _ => congrArg₂ (· * ·) ?_ (congrArg x5 ?_))
  · rw [← rectified_apply]
    refine congrArg _ ?_
    funext a; apply Fin.ext; fin_cases a
    · exact Nat.div_one _
    · rfl
  · funext a; apply Fin.ext; fin_cases a <;> rfl

/-- The column of segment numbers at row `n`. -/
theorem segment_apply (n : Fin 100000) : val_main_v13 (F := Ideal) x2 (ix2 n 0) = x2 (ix1 n) := by
  rw [val_main_v13_apply]
  refine congrArg x2 ?_
  funext a; apply Fin.ext; fin_cases a <;> rfl

variable (hb : ∀ n : Fin 100000, (x2 (ix1 n)).toNat < 512)
include hb

/-- The denominators before the guard. -/
theorem total_apply (g : Fin 512) : val_main_v14 (F := Ideal) x0 x2 x3 x4 x5 (ix1 g) = total x0 x2 x3 x4 x5 g.val := by
  unfold val_main_v14
  rw [segmentSum_vec _ _ _ (fun n => by rw [segment_apply]; exact hb n), val_main_v12_apply, val_main_cst_1_apply, Ideal.ofBits_def,
    Ideal.ofBits_zero_f32, zero_add]
  unfold total
  refine Finset.sum_congr rfl fun n _ => ?_
  rw [segment_apply, weight_apply]

/-- The segment numbers taken at are the segment numbers. -/
theorem taken_at (n : Fin 100000) : val_main_v20 (F := Ideal) x2 (ix2 n 0) = x2 (ix1 n) := by
  rw [val_main_v20_apply, show idx_main_v20 (ix2 n 0) = ix1 n from by funext a; apply Fin.ext; fin_cases a <;> rfl,
    val_main_v19_apply, val_main_v16_apply, val_main_v15_apply, val_main_c_apply]
  exact Routing.wrap_of_lt _ _ (by have := hb n; omega)

/-- The share of row `n` in its segment. -/
theorem share_apply (n : Fin 100000) (z : Fin 512) : val_main_v26 (F := Ideal) x0 x2 x3 x4 x5 (ix2 n z)
    = Ideal.div (wt x0 x3 x4 x5 n) (total x0 x2 x3 x4 x5 (x2 (ix1 n)).toNat + guard) := by
  rw [val_main_v26_apply, val_main_v25_apply,
    show idx_main_v25 (idx_main_v26 (ix2 n z)) = ix1 n from by funext a; apply Fin.ext; fin_cases a <;> rfl,
    val_main_v24_apply, weight_apply, val_main_v23_apply, val_main_v22_apply, val_main_cst_3_apply]
  unfold val_main_v21
  rw [take_apply _ _ n ⟨(x2 (ix1 n)).toNat, hb n⟩ (by rw [taken_at x2 hb]), total_apply x0 x2 x3 x4 x5 hb]
  rfl

/-- The reference's result at an entry. -/
theorem result_apply (g z : Fin 512) : val_main_v30 (F := Ideal) x0 x2 x3 x4 x5 (ix2 g z)
    = ∑ n : Fin 100000, if (x2 (ix1 n)).toNat = g.val
        then Ideal.div (wt x0 x3 x4 x5 n) (total x0 x2 x3 x4 x5 g.val + guard) * x0 (ix2 n z) else 0 := by
  have h29 : ∀ n : Fin 100000, val_main_v29 (F := Ideal) x2 (ix2 n 0) = x2 (ix1 n) := fun n => segment_apply x2 n
  unfold val_main_v30
  rw [segmentSum_row _ _ _ (fun n => by rw [h29]; exact hb n), val_main_v28_apply, val_main_cst_4_apply, Ideal.ofBits_def,
    Ideal.ofBits_zero_f32, zero_add]
  refine Finset.sum_congr rfl fun n _ => ?_
  rw [h29]
  split
  · rename_i e
    rw [val_main_v27_apply, share_apply x0 x2 x3 x4 x5 hb, e]
    rfl
  · rfl

end Cert.ReferenceIdeal

end
-- ==== Proof.Equal.lean ====
/- The two programs' results agree at the extended reals: the equation at every segment and column. -/
module

public import proofs.«01_k».proof.Proof.KOut
public import proofs.«01_k».proof.Proof.RValue

@[expose] public section

set_option maxRecDepth 16384

noncomputable section

namespace Cert.Equal

open Idealize.ShloMosaic Idealize.ShloMosaic.TcCoe Idealize.SL.Sem Cert.RowMath

variable (m : (ℓ : Loc Cert.KernelIdeal.nD Cert.KernelIdeal.τ Cert.KernelIdeal.sig) → Buf (Elt Ideal) ℓ) (c : Dev Cert.KernelIdeal.nD)

/-- The kernel's pooled rows are the reference's weighted rows summed. -/
theorem pooled_eq (h : Batch.Sorted (Cert.KernelIdeal.segs m c)) :
    Cert.KernelIdeal.pooled m c = Cert.ReferenceIdeal.Read.val_main_v30 (F := Ideal) (Cert.KernelIdeal.rows m c) (Cert.KernelIdeal.segs m c)
      (Cert.KernelIdeal.wts1 m c) (Cert.KernelIdeal.bias1 m c) (Cert.KernelIdeal.wts2 m c) := by
  refine funext fun i => ?_
  obtain ⟨g, z, rfl⟩ : ∃ g z : Fin 512, i = ix2 g z := ⟨i 0, i 1, by funext a; fin_cases a <;> rfl⟩
  refine Eq.trans ?_ (Cert.ReferenceIdeal.result_apply (Cert.KernelIdeal.rows m c) (Cert.KernelIdeal.segs m c)
      (Cert.KernelIdeal.wts1 m c) (Cert.KernelIdeal.bias1 m c) (Cert.KernelIdeal.wts2 m c) h.lt g z).symm
  refine pool_eq (fun n => (Cert.KernelIdeal.segs m c (ix1 n)).toNat = g.val) (fun n => Cert.KernelIdeal.rows m c (ix2 n z))
    (Cert.KernelIdeal.wt m c) _ ?_
  refine lt_of_lt_of_le guard_pos (le_add_of_nonneg_left (Finset.sum_nonneg fun n _ => ?_))
  unfold Cert.KernelIdeal.giveD
  split
  · exact weight_nonneg _ _ _ _
  · exact le_refl _

end Cert.Equal

end
-- ==== Proof.ShiftMath.lean ====
/- A softmax does not see a number added to all its arguments: over the extended reals, with a real shift and the guard scaled alike. -/
module

public import proofs.«01_k».proof.Proof.PoolMath

@[expose] public section

noncomputable section

namespace Cert.RowMath

open Idealize.ShloMosaic

/-- The f32 word of infinity. -/
theorem inf_eq : Ideal.ofBits FTy.f32 0x7F800000#32 = ⊤ := by simp [Ideal.ofBits, Ideal.ieee]

/-- A number whose absolute value is below infinity is real. -/
theorem real_of_abs_lt (y : EReal) (h : Ideal.cmp .olt (FloatOps.hostAbsf (F := Ideal) (φ := FTy.f32) y) (Ideal.ofBits FTy.f32 0x7F800000#32) = 1#1) :
    ∃ r : ℝ, y = (r : EReal) := by
  rw [inf_eq] at h
  induction y with
  | bot =>
    have e : FloatOps.absf (F := Ideal) (φ := FTy.f32) (⊥ : EReal) = ⊤ := by
      show max (⊥ : EReal) (-⊥) = ⊤
      simp
    simp [Ideal.cmp, e] at h
  | top =>
    have e : FloatOps.absf (F := Ideal) (φ := FTy.f32) (⊤ : EReal) = ⊤ := by
      show max (⊤ : EReal) (-⊤) = ⊤
      simp
    simp [Ideal.cmp, e] at h
  | coe r => exact ⟨r, rfl⟩

/-- A number replaced by 0 where it is not finite is real. -/
theorem guarded_real (y : EReal) : ∃ r : ℝ,
    Scalar.select (Ideal.cmp .olt (FloatOps.hostAbsf (F := Ideal) (φ := FTy.f32) y) (Ideal.ofBits FTy.f32 0x7F800000#32)) y (0 : EReal) = (r : EReal) := by
  by_cases h : Ideal.cmp .olt (FloatOps.hostAbsf (F := Ideal) (φ := FTy.f32) y) (Ideal.ofBits FTy.f32 0x7F800000#32) = 1#1
  · obtain ⟨r, e⟩ := real_of_abs_lt y h
    exact ⟨r, by rw [← e]; simp only [Scalar.select, h]; rfl⟩
  · refine ⟨0, ?_⟩
    unfold Scalar.select
    exact if_neg h

/-- The factor a shift by real numbers multiplies every exponential by. -/
def factor (b r : ℝ) : EReal := ((Real.exp (b - r) : ℝ) : EReal)

theorem factor_pos (b r : ℝ) : 0 < factor b r := EReal.coe_pos.2 (Real.exp_pos _)
theorem factor_ne_top (b r : ℝ) : factor b r ≠ ⊤ := EReal.coe_ne_top _

/-- The exponential of a shifted number. -/
theorem exp_shift (g : EReal) (b r : ℝ) : Ideal.exp (g + (b : EReal) - (r : EReal)) = Ideal.exp g * factor b r := by
  induction g with
  | bot =>
    rw [EReal.bot_add, sub_eq_add_neg, EReal.bot_add]
    exact (zero_mul _).symm
  | top =>
    rw [EReal.top_add_coe, EReal.top_sub_coe]
    exact (EReal.top_mul_of_pos (factor_pos b r)).symm
  | coe s =>
    show ((Real.exp (s + b - r) : ℝ) : EReal) = ((Real.exp s : ℝ) : EReal) * factor b r
    unfold factor
    rw [← EReal.coe_mul, ← Real.exp_add, add_sub_assoc]

/-- The exponential of a real difference. -/
theorem exp_diff (b r : ℝ) : Ideal.exp ((b : EReal) - (r : EReal)) = factor b r := rfl

/-- A quotient whose two parts have a common positive real factor. -/
theorem div_factor (e d : EReal) (b r : ℝ) (hd : 0 < d) : Ideal.div (e * factor b r) (d * factor b r) = Ideal.div e d := by
  have hp := factor_pos b r
  have hdf : d * factor b r ≠ 0 := mul_ne_zero hd.ne' hp.ne'
  have hc : factor b r * (factor b r)⁻¹ = 1 := by
    unfold factor
    rw [← EReal.coe_inv, ← EReal.coe_mul, mul_inv_cancel₀ (Real.exp_pos _).ne']
    rfl
  unfold Ideal.div
  rw [if_neg hdf, if_neg hd.ne', EReal.mul_inv, mul_assoc, mul_comm d⁻¹, ← mul_assoc (factor b r), hc, one_mul]

end Cert.RowMath

end
-- ==== Proof.SValue.lean ====
/- The shifted reference's result over the extended reals, when the last bias is real: every weight and every sum of weights carries the
   same positive real factor as the guard does, so a row's share is the one the plain reference gives it. -/
module

public import proofs.«01_k».proof.Proof.Gen.ShiftedIdeal.Read
public import proofs.«01_k».proof.Proof.RValue
public import proofs.«01_k».proof.Proof.ShiftMath

@[expose] public section

set_option maxRecDepth 16384

noncomputable section

namespace Cert.ShiftedIdeal

open Idealize.ShloMosaic Idealize.SL.Sem Cert.ShiftedIdeal.Gen Cert.ShiftedIdeal.Read Cert.RowMath
open Cert.ReferenceIdeal (wt total)

variable (x0 : FVec Ideal S100000x512 .f32) (x2 : IVec S100000 32) (x3 : FVec Ideal S512x512 .f32) (x4 : FVec Ideal S512 .f32)
  (x5 : FVec Ideal S512x1 .f32) (x6 : FVec Ideal S1 .f32)

/-- The gate of row `n` before the last bias, the same stage in both references. -/
def gate (n : Fin 100000) : EReal := Cert.ReferenceIdeal.Read.val_main_v10 (F := Ideal) x0 x3 x4 x5 (ix1 n)

/-- Its exponential is the row's weight. -/
theorem exp_gate (n : Fin 100000) : Ideal.exp (gate x0 x3 x4 x5 n) = wt x0 x3 x4 x5 n :=
  (Cert.ReferenceIdeal.Read.val_main_v11_apply (F := Ideal) x0 x3 x4 x5 (ix1 n)).symm.trans
    (Cert.ReferenceIdeal.weight_apply x0 x3 x4 x5 n)

theorem before_bias : val_main_v9 (F := Ideal) x0 x3 x4 x5 = Cert.ReferenceIdeal.Read.val_main_v9 (F := Ideal) x0 x3 x4 x5 := rfl

/-- The gate of row `n` with its bias. -/
theorem gate_apply (n : Fin 100000) : val_main_v13 (F := Ideal) x0 x3 x4 x5 x6 (ix1 n) = gate x0 x3 x4 x5 n + x6 (ix1 0) := by
  unfold gate
  rw [val_main_v13_apply, val_main_v12_apply, val_main_v11_apply, val_main_v10_apply, Ideal.addf_def, before_bias,
    Cert.ReferenceIdeal.Read.val_main_v10_apply]
  refine congrArg₂ (· + ·) rfl (congrArg x6 ?_)
  funext a; apply Fin.ext; fin_cases a <;> rfl

/-- The shift of a segment is a real number, whatever the largest gate was. -/
theorem shift_real (g : Fin 512) : ∃ r : ℝ, val_main_v26 (F := Ideal) x0 x2 x3 x4 x5 x6 (ix1 g) = (r : EReal) := by
  rw [val_main_v26_apply, val_main_v25_apply, val_main_v23_apply, val_main_v24_apply, val_main_cst_3_apply,
    val_main_call2_v1_apply, val_main_call2_v0_apply, val_main_cst_4_apply, Ideal.ofBits_def, Ideal.ofBits_def, Ideal.ofBits_zero_f32]
  exact guarded_real _

/-- The shift of segment `g` as a real. -/
def shift (g : Fin 512) : ℝ := (shift_real x0 x2 x3 x4 x5 x6 g).choose

theorem shift_eq (g : Fin 512) : val_main_v26 (F := Ideal) x0 x2 x3 x4 x5 x6 (ix1 g) = (shift x0 x2 x3 x4 x5 x6 g : EReal) :=
  (shift_real x0 x2 x3 x4 x5 x6 g).choose_spec

theorem column : val_main_v37 (F := Ideal) x2 = Cert.ReferenceIdeal.Read.val_main_v13 (F := Ideal) x2 := rfl
theorem column' : val_main_v64 (F := Ideal) x2 = Cert.ReferenceIdeal.Read.val_main_v13 (F := Ideal) x2 := rfl
theorem taken : val_main_v32 (F := Ideal) x2 = Cert.ReferenceIdeal.Read.val_main_v20 (F := Ideal) x2 := rfl
theorem taken' : val_main_v44 (F := Ideal) x2 = Cert.ReferenceIdeal.Read.val_main_v20 (F := Ideal) x2 := rfl
theorem taken'' : val_main_v51 (F := Ideal) x2 = Cert.ReferenceIdeal.Read.val_main_v20 (F := Ideal) x2 := rfl

variable (hb : ∀ n : Fin 100000, (x2 (ix1 n)).toNat < 512) (b : ℝ) (hx : x6 (ix1 0) = (b : EReal))

/-- A take at the segment numbers reads the row's segment. -/
theorem take_at (v : S512.Idx → EReal) (n : Fin 100000) :
    Host.gather gather_S512_S100000x1_S100000_n_0_n_n_0_1_1 v (Cert.ReferenceIdeal.Read.val_main_v20 (F := Ideal) x2) (ix1 n)
      = v (ix1 ⟨(x2 (ix1 n)).toNat, hb n⟩) :=
  Cert.ReferenceIdeal.take_apply v _ n ⟨(x2 (ix1 n)).toNat, hb n⟩ (by rw [Cert.ReferenceIdeal.taken_at x2 hb])

include hb hx

/-- The exponential of row `n`: its weight times its segment's factor. -/
theorem expo_apply (n : Fin 100000) : val_main_v35 (F := Ideal) x0 x2 x3 x4 x5 x6 (ix1 n)
    = wt x0 x3 x4 x5 n * factor b (shift x0 x2 x3 x4 x5 x6 ⟨(x2 (ix1 n)).toNat, hb n⟩) := by
  rw [val_main_v35_apply, val_main_v34_apply, gate_apply]
  unfold val_main_v33
  rw [taken, take_at x2 hb, shift_eq, hx, Ideal.subf_def, ← exp_gate]
  exact exp_shift _ _ _

/-- The sum of a segment's exponentials: its sum of weights times its factor. -/
theorem denom_apply (g : Fin 512) : val_main_v38 (F := Ideal) x0 x2 x3 x4 x5 x6 (ix1 g)
    = total x0 x2 x3 x4 x5 g.val * factor b (shift x0 x2 x3 x4 x5 x6 g) := by
  unfold val_main_v38
  refine (Cert.ReferenceIdeal.segmentSum_vec _ (val_main_v37 (F := Ideal) x2) _
    (fun n => by rw [column, Cert.ReferenceIdeal.segment_apply]; exact hb n) g).trans ?_
  rw [val_main_v36_apply, val_main_cst_6_apply, Ideal.ofBits_def, Ideal.ofBits_zero_f32, zero_add]
  unfold total
  rw [sum_mul_real _ _ _ (factor_pos _ _).le (factor_ne_top _ _)]
  refine Finset.sum_congr rfl fun n _ => ?_
  rw [column, Cert.ReferenceIdeal.segment_apply]
  by_cases e : (x2 (ix1 n)).toNat = g.val
  · rw [if_pos e, if_pos e, expo_apply x0 x2 x3 x4 x5 x6 hb b hx]
    have eg : (⟨(x2 (ix1 n)).toNat, hb n⟩ : Fin 512) = g := Fin.ext e
    rw [eg]
  · rw [if_neg e, if_neg e, zero_mul]

/-- The share of row `n` in its segment: the factor goes out. -/
theorem share_apply (n : Fin 100000) : val_main_v59 (F := Ideal) x0 x2 x3 x4 x5 x6 (ix1 n)
    = Ideal.div (wt x0 x3 x4 x5 n) (total x0 x2 x3 x4 x5 (x2 (ix1 n)).toNat + guard) := by
  have ht : 0 ≤ total x0 x2 x3 x4 x5 (x2 (ix1 n)).toNat := by
    unfold total
    refine Finset.sum_nonneg fun k _ => ?_
    split
    · exact weight_nonneg _ _ _ _
    · exact le_refl _
  have hg : val_main_v56 (F := Ideal) (ix1 n) = guard := by
    rw [val_main_v56_apply, val_main_cst_11_apply]; rfl
  have hf : val_main_v55 (F := Ideal) x0 x2 x3 x4 x5 x6 (ix1 n)
      = factor b (shift x0 x2 x3 x4 x5 x6 ⟨(x2 (ix1 n)).toNat, hb n⟩) := by
    rw [val_main_v55_apply, val_main_v54_apply, val_main_v53_apply,
      show idx_main_v53 (ix1 n) = ix1 0 from by funext a; apply Fin.ext; fin_cases a <;> rfl]
    unfold val_main_v52
    rw [taken'', take_at x2 hb, shift_eq, hx, Ideal.subf_def]
    exact exp_diff _ _
  rw [val_main_v59_apply, val_main_v58_apply, val_main_v57_apply, hf, hg, expo_apply x0 x2 x3 x4 x5 x6 hb b hx]
  unfold val_main_v45
  rw [taken', take_at x2 hb, denom_apply x0 x2 x3 x4 x5 x6 hb b hx, Ideal.addf_def, Ideal.mulf_def,
    ← EReal.right_distrib_of_nonneg ht guard_pos.le]
  exact div_factor _ _ _ _ (lt_of_lt_of_le guard_pos (le_add_of_nonneg_left ht))

/-- The shifted reference's result is the plain reference's. -/
theorem result_eq : val_main_v65 (F := Ideal) x0 x2 x3 x4 x5 x6 = Cert.ReferenceIdeal.Read.val_main_v30 (F := Ideal) x0 x2 x3 x4 x5 := by
  refine funext fun i => ?_
  obtain ⟨g, z, rfl⟩ : ∃ g z : Fin 512, i = ix2 g z := ⟨i 0, i 1, by funext a; fin_cases a <;> rfl⟩
  refine Eq.trans ?_ (Cert.ReferenceIdeal.result_apply x0 x2 x3 x4 x5 hb g z).symm
  unfold val_main_v65
  refine (Cert.ReferenceIdeal.segmentSum_row _ (val_main_v64 (F := Ideal) x2) _
    (fun n => by rw [column', Cert.ReferenceIdeal.segment_apply]; exact hb n) g z).trans ?_
  rw [val_main_v63_apply, val_main_cst_12_apply, Ideal.ofBits_def, Ideal.ofBits_zero_f32, zero_add]
  refine Finset.sum_congr rfl fun n _ => ?_
  rw [column', Cert.ReferenceIdeal.segment_apply]
  split
  · rename_i e
    rw [val_main_v62_apply, val_main_v61_apply, val_main_v60_apply,
      show idx_main_v60 (idx_main_v61 (ix2 n z)) = ix1 n from by funext a; apply Fin.ext; fin_cases a <;> rfl,
      share_apply x0 x2 x3 x4 x5 x6 hb b hx, e]
    rfl
  · rfl

end Cert.ShiftedIdeal

end
-- ==== Proof.BatchBias.lean ====
/- The second precondition read: the segment numbers are sorted and in range, and the last bias is a real number. -/
module

public import proofs.«01_k».proof.Pre_sorted_batch_finite_bias
public import proofs.«01_k».proof.Proof.Batch
public import proofs.«01_k».proof.Proof.ShiftMath

@[expose] public section

set_option maxRecDepth 16384

noncomputable section

namespace Cert.Batch

open Idealize.ShloMosaic Cert.Pre_sorted_batch_finite_bias

/-- The precondition's first part is the precondition that the batch is sorted. -/
theorem sorted_of_pre_bias [Facts] [Cert.Pre_sorted_batch.Facts] {F : FTy → Type} [FloatOps F] (a0 : FVec F S100000x512 .f32)
    (a1 : FVec F S100000x3 .f32) (b : IVec S100000 32) (a3 : FVec F S512x512 .f32) (a4 : FVec F S512 .f32) (a5 : FVec F S512x1 .f32)
    (a6 : FVec F S1 .f32) (h : fn (F := F) a0 a1 b a3 a4 a5 a6 = fun _ => 1#1) : Sorted b := by
  refine sorted_of_pre (F := F) a0 a1 b a3 a4 a5 a6 (funext fun i => ?_)
  have e := congrFun h i
  unfold fn at e
  dsimp only at e
  obtain ⟨e1, -⟩ := IntOp.andi_eq_one.1 e
  exact e1

/-- Its second part says that the bias is real. -/
theorem bias_real_of_pre [Facts] (a0 : FVec Ideal S100000x512 .f32) (a1 : FVec Ideal S100000x3 .f32) (b : IVec S100000 32)
    (a3 : FVec Ideal S512x512 .f32) (a4 : FVec Ideal S512 .f32) (a5 : FVec Ideal S512x1 .f32) (a6 : FVec Ideal S1 .f32)
    (h : fn (F := Ideal) a0 a1 b a3 a4 a5 a6 = fun _ => 1#1) : ∃ r : ℝ, a6 (ix1 0) = (r : EReal) := by
  have e := congrFun h (fun a => a.elim0)
  unfold fn at e
  dsimp only at e
  haveI : Subsingleton S_.Idx := ⟨fun p q => funext fun a => a.elim0⟩
  obtain ⟨-, e2⟩ := IntOp.andi_eq_one.1 e
  exact RowMath.real_of_abs_lt _ (Host.reduce_andi_all _ _ _ _ _ e2 (ix1 0))

end Cert.Batch

end
-- ==== Proof.BChk.lean ====
/- The window lies in the scratch at every point of a run whose segment numbers are sorted and in range. -/
module

public import proofs.«01_k».proof.Proof.BWords
public import proofs.«01_k».proof.Proof.BBlocks
public import proofs.«01_k».proof.Proof.BLaunch
public import proofs.«01_k».proof.Proof.Batch

@[expose] public section

set_option maxRecDepth 16384

noncomputable section

namespace Cert.Kernel

open Idealize.ShloMosaic Idealize.ShloMosaic.TcCoe Idealize.SL.Sem Cert.Kernel.Gen

variable {F : FTy → Type} [FloatOps F]

/-- The first segment number of a block is the block's row 0. -/
theorem lo_eq (b : Vec F S4000x1 .i32) : lo b = b (ix2 0 0) := by
  show b _ = b _
  refine congrArg b (funext fun a => Fin.ext ?_)
  fin_cases a <;> rfl

/-- The last segment number of a block is the block's row 3999. -/
theorem hi_eq (b : Vec F S4000x1 .i32) : hi b = b (ix2 3999 0) := by
  show b _ = b _
  refine congrArg b (funext fun a => Fin.ext ?_)
  fin_cases a <;> rfl

variable (m : (ℓ : Loc nD τ sig) → Buf (Elt F) ℓ)

/-- The segment numbers of the run on device `c`. -/
abbrev segs (c : Dev nD) : IVec S100000 32 := (m ((c : Thread nD τ).loc main_arg2) : Vec F S100000 .i32)

/-- The first segment number of the block at point `t`. -/
theorem lo_blk (c : Dev nD) (t : Fin cfg0.N) : lo (F := F) (iblk m c 0 t) = segs m c (ix1 (rowAt t 0)) := by
  rw [lo_eq]; exact blk_batch m c t 0 0

/-- The last segment number of the block at point `t`. -/
theorem hi_blk (c : Dev nD) (t : Fin cfg0.N) : hi (F := F) (iblk m c 0 t) = segs m c (ix1 (rowAt t 3999)) := by
  rw [hi_eq]; exact blk_batch m c t 3999 0

/-- With the segment numbers in range the window lies in the scratch. -/
theorem chk_of_sorted (h : ∀ c, Batch.Sorted (segs m c)) : Chk m := fun c t =>
  chk_of_lt _ _ (by rw [lo_blk]; exact (h c).lt _)

end Cert.Kernel

end
-- ==== Proof.lean ====
/- The proof of the claim: the two kernel programs' frames, the reference's, and the equation of the results. -/
module

public import proofs.«01_k».proof.Defs
public import proofs.«01_k».proof.Proof.Gen.Kernel
public import proofs.«01_k».proof.Proof.Gen.KernelIdeal
public import proofs.«01_k».proof.Proof.Gen.Kernel.Skeleton
public import proofs.«01_k».proof.Proof.Gen.Kernel.Frame
public import proofs.«01_k».proof.Proof.Gen.KernelIdeal.Skeleton
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_sorted_batch
public import proofs.«01_k».proof.Proof.Gen.Pre_sorted_batch_finite_bias
public import proofs.«01_k».proof.Proof.Gen.ShiftedIdeal
public import proofs.«01_k».proof.Proof.Gen.ShiftedIdeal.Run
public import proofs.«01_k».proof.Proof.Gen.ShiftedIdeal.Read
public import proofs.«01_k».proof.Proof.Equal
public import proofs.«01_k».proof.Proof.SValue
public import proofs.«01_k».proof.Proof.BatchBias
public import proofs.«01_k».proof.Proof.BChk
public import Idealize.ShloMosaic.Adequacy
public import Idealize.ShloMosaic.Init

@[expose] public section

noncomputable section

namespace Cert.Proof

open Idealize.ShloMosaic Idealize.SL.Sem

/-- The kernel at the bit-exact floats runs to its end from a sorted batch, changes no argument and leaves every counter at zero. -/
theorem frame_kernel : Cert.quiescent_Kernel := fun m g h =>
  Cert.Kernel.frame_run m g (Cert.Kernel.chk_of_sorted m fun c => Batch.sorted_of_pre _ _ _ _ _ _ _ (h c))

/-- The same at the extended reals. -/
theorem frame_kernel_ideal : Cert.quiescent_KernelIdeal := fun m g h =>
  Cert.KernelIdeal.frame_run m g (Cert.KernelIdeal.chk_of_sorted m fun c => Batch.sorted_of_pre _ _ _ _ _ _ _ (h c))

/-- The reference runs to its end from any arguments, changes none and leaves every counter at zero: it has no counters. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- From a sorted batch the kernel and the reference, both at the extended reals, end with the same result. -/
theorem equal_results : Cert.algebraic_KernelIdeal_ReferenceIdeal := by
  intro m g m' g' hpre hargs
  have hs : ∀ c, Batch.Sorted (Cert.KernelIdeal.segs m c) := fun c => Batch.sorted_of_pre _ _ _ _ _ _ _ (hpre c)
  refine ⟨fun c => Cert.KernelIdeal.pooled m c, Cert.KernelIdeal.value_run m g hs, ?_⟩
  refine (θ_run Cert.ReferenceIdeal.defs _ _).mono (fun r h c => ⟨?_, (h c).2⟩) (Cert.ReferenceIdeal.Value.run (F := Ideal) m' g')
  obtain ⟨e0, -, e2, e3, e4, e5, -⟩ := hargs c
  refine (h c).1.trans ((Cert.ReferenceIdeal.Read.val_main_v30_eq _ _ _ _ _).trans ?_)
  rw [e0, e2, e3, e4, e5]
  exact (Equal.pooled_eq m c (hs c)).symm

/-- Under the second precondition too the kernel at the extended reals runs to its end and changes no argument. -/
theorem frame_kernel_ideal_bias : Cert.quiescent_KernelIdeal_pre_sorted_batch_finite_bias := fun m g h =>
  Cert.KernelIdeal.frame_run m g (Cert.KernelIdeal.chk_of_sorted m fun c => Batch.sorted_of_pre_bias _ _ _ _ _ _ _ (h c))

/-- The shifted reference runs to its end from any arguments, changes none and leaves every counter at zero: it has no counters. -/
theorem frame_shifted : Cert.quiescent_ShiftedIdeal := fun m g _ =>
  (θ_run Cert.ShiftedIdeal.defs _ _).mono (fun r h => ⟨fun c => (h c).2, sem_eq_zero_of_no_sems (by decide) r.2⟩)
    (Cert.ShiftedIdeal.Value.run (F := Ideal) m g)

/-- From a sorted batch and a real last bias the kernel and the shifted reference, both at the extended reals, end with the same
    result. -/
theorem equal_results_shifted : Cert.algebraic_KernelIdeal_ShiftedIdeal_pre_sorted_batch_finite_bias := by
  intro m g m' g' hpre hargs
  have hs : ∀ c, Batch.Sorted (Cert.KernelIdeal.segs m c) := fun c => Batch.sorted_of_pre_bias _ _ _ _ _ _ _ (hpre c)
  refine ⟨fun c => Cert.KernelIdeal.pooled m c, Cert.KernelIdeal.value_run m g hs, ?_⟩
  refine (θ_run Cert.ShiftedIdeal.defs _ _).mono (fun r h c => ⟨?_, (h c).2⟩) (Cert.ShiftedIdeal.Value.run (F := Ideal) m' g')
  obtain ⟨e0, -, e2, e3, e4, e5, e6⟩ := hargs c
  obtain ⟨b, hb⟩ := Batch.bias_real_of_pre _ _ _ _ _ _ _ (hpre c)
  refine (h c).1.trans ((Cert.ShiftedIdeal.Read.val_main_v65_eq m' c).trans ?_)
  rw [e0, e2, e3, e4, e5, e6]
  exact (Cert.ShiftedIdeal.result_eq _ _ _ _ _ _ (hs c).lt b hb).trans (Equal.pooled_eq m c (hs c)).symm

/-- Everything claimed. -/
theorem claim : Cert.Claim :=
  ⟨Cert.Kernel.Gen.facts, Cert.KernelIdeal.Gen.facts, Cert.ReferenceIdeal.Gen.facts, Cert.ShiftedIdeal.Gen.facts,
    Cert.Pre_sorted_batch.Gen.facts, Cert.Pre_sorted_batch_finite_bias.Gen.facts,
    frame_kernel, frame_kernel_ideal, frame_kernel_ideal_bias, frame_reference, fun m g _ => frame_reference m g trivial,
    frame_shifted, fun m g _ => frame_shifted m g trivial, trivial, equal_results, equal_results_shifted⟩

end Cert.Proof

end
